-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_votes_and_weights [hPre_votes_and_weights : Cert.Pre_votes_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_votes_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_votes_and_weights [hPre_votes_and_weights : Cert.Pre_votes_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_votes_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_votes_and_weights [hKernelIdeal : Cert.KernelIdeal.Facts] [hPre_votes_and_weights : Cert.Pre_votes_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_votes_and_weights m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_votes_and_weights [hReferenceIdeal : Cert.ReferenceIdeal.Facts] [hPre_votes_and_weights : Cert.Pre_votes_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_votes_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_votes_and_weights [hKernelIdeal : Cert.KernelIdeal.Facts] [hReferenceIdeal : Cert.ReferenceIdeal.Facts] [hPre_votes_and_weights : Cert.Pre_votes_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_votes_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_votes_and_weights : Cert.Pre_votes_and_weights.Facts),
    quiescent_Kernel (hKernel := hKernel)
    ∧ quiescent_KernelIdeal (hKernelIdeal := hKernelIdeal)
    ∧ quiescent_KernelIdeal_pre_votes_and_weights (hKernelIdeal := hKernelIdeal) (hPre_votes_and_weights := hPre_votes_and_weights)
    ∧ quiescent_ReferenceIdeal (hReferenceIdeal := hReferenceIdeal)
    ∧ quiescent_ReferenceIdeal_pre_votes_and_weights (hReferenceIdeal := hReferenceIdeal) (hPre_votes_and_weights := hPre_votes_and_weights)
    ∧ preserves_Kernel_KernelIdeal
    ∧ algebraic_KernelIdeal_ReferenceIdeal_pre_votes_and_weights (hKernelIdeal := hKernelIdeal) (hReferenceIdeal := hReferenceIdeal) (hPre_votes_and_weights := hPre_votes_and_weights)
-- ==== Pre_votes_and_weights.lean ====
abbrev S64x1048576 : Shape := ⟨2, ![64, 1048576]⟩
abbrev S64 : Shape := ⟨1, ![64]⟩
abbrev S_ : Shape := ⟨0, ![]⟩

class Facts : Prop where
  bcast_S_S64x1048576 : S_.BroadcastsInDim S64x1048576 (![] : Fin 0 → Fin S64x1048576.rank)
  reducesTo_S64x1048576_S_d0_1 : S64x1048576.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : IVec S64x1048576 32) (main_arg1 : FVec F S64 .f32) : IVec S_ 1 :=
  let main_c : IVec S_ 32 := constantI S_ 32 0#32
  let main_v0 : IVec S64x1048576 32 := broadcastInDim S64x1048576 ![] bcast_S_S64x1048576 main_c
  let main_v1 : IVec S64x1048576 1 := cmpi .eq main_arg0 main_v0
  let main_c_0 : IVec S_ 32 := constantI S_ 32 1#32
  let main_v2 : IVec S64x1048576 32 := broadcastInDim S64x1048576 ![] bcast_S_S64x1048576 main_c_0
  let main_v3 : IVec S64x1048576 1 := cmpi .eq main_arg0 main_v2
  let main_v4 : IVec S64x1048576 1 := ori main_v1 main_v3
  let main_c_1 : IVec S_ 1 := constantI S_ 1 1#1
  let main_v5 : IVec S_ 1 := (fun x v => Host.reduce IntOp.andi x v reducesTo_S64x1048576_S_d0_1 h_S_) main_v4 main_c_1
  let main_cst : FVec F S_ .f32 := constant S_ .f32 0x00000000#32
  let main_v6 : FVec F S64 .f32 := broadcastInDim S64 ![] bcast_S_S64 main_cst
  let main_v7 : IVec S64 1 := cmpf .oge main_arg1 main_v6
  let main_c_2 : IVec S_ 1 := constantI S_ 1 1#1
  let main_v8 : IVec S_ 1 := (fun x v => Host.reduce IntOp.andi x v reducesTo_S64_S_d0 h_S_) main_v7 main_c_2
  let main_v9 : IVec S_ 1 := andi main_v5 main_v8
  let main_cst_3 : FVec F S_ .f32 := constant S_ .f32 0x00000000#32
  let main_v10 : FVec F S_ .f32 := (fun x v => Host.reduceAdd x v reducesTo_S64_S_d0 h_S_) main_arg1 main_cst_3
  let main_cst_4 : FVec F S_ .f32 := constant S_ .f32 0x43800000#32
  let main_v11 : IVec S_ 1 := cmpf .olt main_v10 main_cst_4
  let main_v12 : IVec S_ 1 := andi main_v9 main_v11
  main_v12
-- ==== Kernel.lean ====
abbrev S64x1048576 : Shape := ⟨2, ![64, 1048576]⟩
abbrev S64 : Shape := ⟨1, ![64]⟩
abbrev S64x1 : Shape := ⟨2, ![64, 1]⟩
abbrev S64x16 : Shape := ⟨2, ![64, 16]⟩
abbrev S622592 : Shape := ⟨1, ![622592]⟩
abbrev S64x512 : Shape := ⟨2, ![64, 512]⟩
abbrev S512 : Shape := ⟨1, ![512]⟩
abbrev S_ : Shape := ⟨0, ![]⟩
abbrev S16 : Shape := ⟨1, ![16]⟩
abbrev S1x16 : Shape := ⟨2, ![1, 16]⟩
abbrev S425984 : Shape := ⟨1, ![425984]⟩
abbrev S64x8192 : Shape := ⟨2, ![64, 8192]⟩
abbrev S8192 : Shape := ⟨1, ![8192]⟩
abbrev S1x64x1 : Shape := ⟨3, ![1, 64, 1]⟩
abbrev S1 : Shape := ⟨1, ![1]⟩
abbrev S1x1x1 : Shape := ⟨3, ![1, 1, 1]⟩
abbrev S1048576 : Shape := ⟨1, ![1048576]⟩

abbrev nBuf : Table → Nat
  | .hbm => 8
  | .local .tc .vmem => 5
  | .local .scVector .vmem => 5
  | _ => 0

abbrev bufTy : (tb : Table) → Fin (nBuf tb) → BufTy
  | .hbm, ⟨0, _⟩ => ⟨S64x1048576, .i32⟩
  | .hbm, ⟨1, _⟩ => ⟨S64, .f32⟩
  | .hbm, ⟨2, _⟩ => ⟨S64x1, .f32⟩
  | .hbm, ⟨3, _⟩ => ⟨S64x16, .f32⟩
  | .hbm, ⟨4, _⟩ => ⟨S622592, .i32⟩
  | .hbm, ⟨5, _⟩ => ⟨S64x1, .f32⟩
  | .hbm, ⟨6, _⟩ => ⟨S425984, .i32⟩
  | .hbm, ⟨7, _⟩ => ⟨S1048576, .i32⟩
  | .local .tc .vmem, ⟨0, _⟩ => ⟨S64x1, .f32⟩
  | .local .tc .vmem, ⟨1, _⟩ => ⟨S64x8192, .i32⟩
  | .local .tc .vmem, ⟨2, _⟩ => ⟨S64x8192, .i32⟩
  | .local .tc .vmem, ⟨3, _⟩ => ⟨S8192, .i32⟩
  | .local .tc .vmem, ⟨4, _⟩ => ⟨S8192, .i32⟩
  | .local .scVector .vmem, ⟨0, _⟩ => ⟨S64x16, .f32⟩
  | .local .scVector .vmem, ⟨1, _⟩ => ⟨S64x512, .i32⟩
  | .local .scVector .vmem, ⟨2, _⟩ => ⟨S64x512, .i32⟩
  | .local .scVector .vmem, ⟨3, _⟩ => ⟨S512, .i32⟩
  | .local .scVector .vmem, ⟨4, _⟩ => ⟨S512, .i32⟩
  | _, _ => ⟨S64x1048576, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let v16 : Index := Scalar.indexCast arg14
  let c0 : Index := 0#32
  ![v16.toNat, 0]
def k0_off2 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c0_i32_1 : BitVec 32 := 0#32
  let v6 : BitVec 32 := Scalar.addi v2 c0_i32_1
  ![0, v6.toNat]
@[reducible] def k0_t2_loop : Scf.Loop 32 :=
  let c0_i32_5 : BitVec 32 := 0#32
  let c19_i32 : BitVec 32 := 19#32
  let v9 : BitVec 32 := Scalar.addi c0_i32_5 c19_i32
  let c1_i32_6 : BitVec 32 := 1#32
  ⟨c0_i32_5, v9, c1_i32_6⟩
def k0_cond1 (k0_t2 : Fin k0_t2_loop.trips) : BitVec 1 :=
  let c2_i32_8 : BitVec 32 := 2#32
  let c0_i32_5 : BitVec 32 := 0#32
  let c1_i32_6 : BitVec 32 := 1#32
  let arg14 : BitVec 32 := Scf.iv c0_i32_5 c1_i32_6 k0_t2
  let v16 : BitVec 32 := Scalar.muli c2_i32_8 arg14
  let c0_i32_9 : BitVec 32 := 0#32
  let v17 : BitVec 32 := Scalar.addi v16 c0_i32_9
  let c1_i32_10 : BitVec 32 := 1#32
  let v18 : BitVec 32 := Scalar.addi v17 c1_i32_10
  let c38_i32 : BitVec 32 := 38#32
  let v19 : BitVec 1 := Scalar.cmpi .slt v18 c38_i32
  let v20 : BitVec 32 := Scalar.extui v19
  let c0_i32_11 : BitVec 32 := 0#32
  let v21 : BitVec 1 := Scalar.cmpi .ne v20 c0_i32_11
  v21

def k0_off3 (i : grid0.Coords) (k0_t2 : Fin k0_t2_loop.trips) : Fin 2 → Nat :=
  let c0_i32_197 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c2_i32_8 : BitVec 32 := 2#32
  let c0_i32_5 : BitVec 32 := 0#32
  let c1_i32_6 : BitVec 32 := 1#32
  let arg14 : BitVec 32 := Scf.iv c0_i32_5 c1_i32_6 k0_t2
  let v16 : BitVec 32 := Scalar.muli c2_i32_8 arg14
  let c0_i32_9 : BitVec 32 := 0#32
  let v17 : BitVec 32 := Scalar.addi v16 c0_i32_9
  let c1_i32_195 : BitVec 32 := 1#32
  let v756 : BitVec 32 := Scalar.addi v17 c1_i32_195
  let c512_i32_196 : BitVec 32 := 512#32
  let v757 : BitVec 32 := Scalar.muli v756 c512_i32_196
  let v758 : BitVec 32 := Scalar.addi v2 v757
  ![0, v758.toNat]
def k0_off4 (i : grid0.Coords) : Fin 2 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  ![0, v2.toNat]
@[reducible] def k0_t3_loop : Scf.Loop 32 :=
  let c0_i32_15 : BitVec 32 := 0#32
  let c64_i32_16 : BitVec 32 := 64#32
  let v25 : BitVec 32 := Scalar.addi c0_i32_15 c64_i32_16
  let c1_i32_17 : BitVec 32 := 1#32
  ⟨c0_i32_15, v25, c1_i32_17⟩
def k0_off5 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v756 : Index := Scalar.indexCast arg15
  let c0_195 : Index := 0#32
  ![v756.toNat, 0]
def k0_off6 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v759 : Index := Scalar.indexCast arg15
  let c0_196 : Index := 0#32
  ![v759.toNat, 0]
def k0_off7 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v765 : Index := Scalar.indexCast arg15
  let c16_197 : Index := 16#32
  ![v765.toNat, 16]
def k0_off8 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v771 : Index := Scalar.indexCast arg15
  let c32_198 : Index := 32#32
  ![v771.toNat, 32]
def k0_off9 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v777 : Index := Scalar.indexCast arg15
  let c48_199 : Index := 48#32
  ![v777.toNat, 48]
def k0_off10 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v783 : Index := Scalar.indexCast arg15
  let c64_200 : Index := 64#32
  ![v783.toNat, 64]
def k0_off11 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v789 : Index := Scalar.indexCast arg15
  let c80_201 : Index := 80#32
  ![v789.toNat, 80]
def k0_off12 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v795 : Index := Scalar.indexCast arg15
  let c96_202 : Index := 96#32
  ![v795.toNat, 96]
def k0_off13 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v801 : Index := Scalar.indexCast arg15
  let c112_203 : Index := 112#32
  ![v801.toNat, 112]
def k0_off14 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v807 : Index := Scalar.indexCast arg15
  let c128_204 : Index := 128#32
  ![v807.toNat, 128]
def k0_off15 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v813 : Index := Scalar.indexCast arg15
  let c144_205 : Index := 144#32
  ![v813.toNat, 144]
def k0_off16 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v819 : Index := Scalar.indexCast arg15
  let c160_206 : Index := 160#32
  ![v819.toNat, 160]
def k0_off17 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v825 : Index := Scalar.indexCast arg15
  let c176_207 : Index := 176#32
  ![v825.toNat, 176]
def k0_off18 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v831 : Index := Scalar.indexCast arg15
  let c192_208 : Index := 192#32
  ![v831.toNat, 192]
def k0_off19 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v837 : Index := Scalar.indexCast arg15
  let c208_209 : Index := 208#32
  ![v837.toNat, 208]
def k0_off20 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v843 : Index := Scalar.indexCast arg15
  let c224_210 : Index := 224#32
  ![v843.toNat, 224]
def k0_off21 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v849 : Index := Scalar.indexCast arg15
  let c240_211 : Index := 240#32
  ![v849.toNat, 240]
def k0_off22 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v855 : Index := Scalar.indexCast arg15
  let c256_212 : Index := 256#32
  ![v855.toNat, 256]
def k0_off23 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v861 : Index := Scalar.indexCast arg15
  let c272_213 : Index := 272#32
  ![v861.toNat, 272]
def k0_off24 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v867 : Index := Scalar.indexCast arg15
  let c288_214 : Index := 288#32
  ![v867.toNat, 288]
def k0_off25 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v873 : Index := Scalar.indexCast arg15
  let c304_215 : Index := 304#32
  ![v873.toNat, 304]
def k0_off26 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v879 : Index := Scalar.indexCast arg15
  let c320_216 : Index := 320#32
  ![v879.toNat, 320]
def k0_off27 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v885 : Index := Scalar.indexCast arg15
  let c336_217 : Index := 336#32
  ![v885.toNat, 336]
def k0_off28 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v891 : Index := Scalar.indexCast arg15
  let c352_218 : Index := 352#32
  ![v891.toNat, 352]
def k0_off29 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v897 : Index := Scalar.indexCast arg15
  let c368_219 : Index := 368#32
  ![v897.toNat, 368]
def k0_off30 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v903 : Index := Scalar.indexCast arg15
  let c384_220 : Index := 384#32
  ![v903.toNat, 384]
def k0_off31 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v909 : Index := Scalar.indexCast arg15
  let c400_221 : Index := 400#32
  ![v909.toNat, 400]
def k0_off32 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v915 : Index := Scalar.indexCast arg15
  let c416_222 : Index := 416#32
  ![v915.toNat, 416]
def k0_off33 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v921 : Index := Scalar.indexCast arg15
  let c432_223 : Index := 432#32
  ![v921.toNat, 432]
def k0_off34 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v927 : Index := Scalar.indexCast arg15
  let c448_224 : Index := 448#32
  ![v927.toNat, 448]
def k0_off35 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v933 : Index := Scalar.indexCast arg15
  let c464_225 : Index := 464#32
  ![v933.toNat, 464]
def k0_off36 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v939 : Index := Scalar.indexCast arg15
  let c480_226 : Index := 480#32
  ![v939.toNat, 480]
def k0_off37 (k0_t3 : Fin k0_t3_loop.trips) : Fin 2 → Nat :=
  let c0_i32_15 : BitVec 32 := 0#32
  let c1_i32_17 : BitVec 32 := 1#32
  let arg15 : BitVec 32 := Scf.iv c0_i32_15 c1_i32_17 k0_t3
  let v945 : Index := Scalar.indexCast arg15
  let c496_227 : Index := 496#32
  ![v945.toNat, 496]
def k0_cond2 (k0_t2 : Fin k0_t2_loop.trips) : BitVec 1 :=
  let c2_i32_8 : BitVec 32 := 2#32
  let c0_i32_5 : BitVec 32 := 0#32
  let c1_i32_6 : BitVec 32 := 1#32
  let arg14 : BitVec 32 := Scf.iv c0_i32_5 c1_i32_6 k0_t2
  let v16 : BitVec 32 := Scalar.muli c2_i32_8 arg14
  let c0_i32_9 : BitVec 32 := 0#32
  let v17 : BitVec 32 := Scalar.addi v16 c0_i32_9
  let c2_i32_19 : BitVec 32 := 2#32
  let v27 : BitVec 1 := Scalar.cmpi .sge v17 c2_i32_19
  let v28 : BitVec 32 := Scalar.extui v27
  let c0_i32_20 : BitVec 32 := 0#32
  let v29 : BitVec 1 := Scalar.cmpi .ne v28 c0_i32_20
  v29

def k0_off38 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c2_i32_8 : BitVec 32 := 2#32
  let c0_i32_5 : BitVec 32 := 0#32
  let c1_i32_6 : BitVec 32 := 1#32
  let arg14 : BitVec 32 := Scf.iv c0_i32_5 c1_i32_6 k0_t2
  let v16 : BitVec 32 := Scalar.muli c2_i32_8 arg14
  let c0_i32_9 : BitVec 32 := 0#32
  let v17 : BitVec 32 := Scalar.addi v16 c0_i32_9
  let c512_i32_195 : BitVec 32 := 512#32
  let v756 : BitVec 32 := Scalar.muli v17 c512_i32_195
  let v757 : BitVec 32 := Scalar.addi v2 v756
  ![v757.toNat]
def k0_off39 (i : grid0.Coords) (k0_t2 : Fin k0_t2_loop.trips) (c0_i32_9 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c2_i32_8 : BitVec 32 := 2#32
  let c0_i32_5 : BitVec 32 := 0#32
  let c1_i32_6 : BitVec 32 := 1#32
  let arg14 : BitVec 32 := Scf.iv c0_i32_5 c1_i32_6 k0_t2
  let v16 : BitVec 32 := Scalar.muli c2_i32_8 arg14
  let v17 : BitVec 32 := Scalar.addi v16 c0_i32_9
  let c512_i32 : BitVec 32 := 512#32
  let v382 : BitVec 32 := Scalar.muli v17 c512_i32
  let v383 : BitVec 32 := Scalar.addi v2 v382
  ![v383.toNat]
def k0_cond3 (k0_t2 : Fin k0_t2_loop.trips) : BitVec 1 :=
  let c2_i32_84 : BitVec 32 := 2#32
  let c0_i32_5 : BitVec 32 := 0#32
  let c1_i32_6 : BitVec 32 := 1#32
  let arg14 : BitVec 32 := Scf.iv c0_i32_5 c1_i32_6 k0_t2
  let v386 : BitVec 32 := Scalar.muli c2_i32_84 arg14
  let c1_i32_85 : BitVec 32 := 1#32
  let v387 : BitVec 32 := Scalar.addi v386 c1_i32_85
  let c1_i32_86 : BitVec 32 := 1#32
  let v388 : BitVec 32 := Scalar.addi v387 c1_i32_86
  let c38_i32_87 : BitVec 32 := 38#32
  let v389 : BitVec 1 := Scalar.cmpi .slt v388 c38_i32_87
  let v390 : BitVec 32 := Scalar.extui v389
  let c0_i32_88 : BitVec 32 := 0#32
  let v391 : BitVec 1 := Scalar.cmpi .ne v390 c0_i32_88
  v391

def k0_off40 (i : grid0.Coords) (k0_t2 : Fin k0_t2_loop.trips) : Fin 2 → Nat :=
  let c0_i32_197 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c2_i32_84 : BitVec 32 := 2#32
  let c0_i32_5 : BitVec 32 := 0#32
  let c1_i32_6 : BitVec 32 := 1#32
  let arg14 : BitVec 32 := Scf.iv c0_i32_5 c1_i32_6 k0_t2
  let v386 : BitVec 32 := Scalar.muli c2_i32_84 arg14
  let c1_i32_85 : BitVec 32 := 1#32
  let v387 : BitVec 32 := Scalar.addi v386 c1_i32_85
  let c1_i32_195 : BitVec 32 := 1#32
  let v756 : BitVec 32 := Scalar.addi v387 c1_i32_195
  let c512_i32_196 : BitVec 32 := 512#32
  let v757 : BitVec 32 := Scalar.muli v756 c512_i32_196
  let v758 : BitVec 32 := Scalar.addi v2 v757
  ![0, v758.toNat]
@[reducible] def k0_t4_loop : Scf.Loop 32 :=
  let c0_i32_92 : BitVec 32 := 0#32
  let c64_i32_93 : BitVec 32 := 64#32
  let v395 : BitVec 32 := Scalar.addi c0_i32_92 c64_i32_93
  let c1_i32_94 : BitVec 32 := 1#32
  ⟨c0_i32_92, v395, c1_i32_94⟩
def k0_off41 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v756 : Index := Scalar.indexCast arg15
  let c0_195 : Index := 0#32
  ![v756.toNat, 0]
def k0_off42 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v759 : Index := Scalar.indexCast arg15
  let c0_196 : Index := 0#32
  ![v759.toNat, 0]
def k0_off43 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v765 : Index := Scalar.indexCast arg15
  let c16_197 : Index := 16#32
  ![v765.toNat, 16]
def k0_off44 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v771 : Index := Scalar.indexCast arg15
  let c32_198 : Index := 32#32
  ![v771.toNat, 32]
def k0_off45 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v777 : Index := Scalar.indexCast arg15
  let c48_199 : Index := 48#32
  ![v777.toNat, 48]
def k0_off46 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v783 : Index := Scalar.indexCast arg15
  let c64_200 : Index := 64#32
  ![v783.toNat, 64]
def k0_off47 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v789 : Index := Scalar.indexCast arg15
  let c80_201 : Index := 80#32
  ![v789.toNat, 80]
def k0_off48 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v795 : Index := Scalar.indexCast arg15
  let c96_202 : Index := 96#32
  ![v795.toNat, 96]
def k0_off49 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v801 : Index := Scalar.indexCast arg15
  let c112_203 : Index := 112#32
  ![v801.toNat, 112]
def k0_off50 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v807 : Index := Scalar.indexCast arg15
  let c128_204 : Index := 128#32
  ![v807.toNat, 128]
def k0_off51 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v813 : Index := Scalar.indexCast arg15
  let c144_205 : Index := 144#32
  ![v813.toNat, 144]
def k0_off52 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v819 : Index := Scalar.indexCast arg15
  let c160_206 : Index := 160#32
  ![v819.toNat, 160]
def k0_off53 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v825 : Index := Scalar.indexCast arg15
  let c176_207 : Index := 176#32
  ![v825.toNat, 176]
def k0_off54 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v831 : Index := Scalar.indexCast arg15
  let c192_208 : Index := 192#32
  ![v831.toNat, 192]
def k0_off55 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v837 : Index := Scalar.indexCast arg15
  let c208_209 : Index := 208#32
  ![v837.toNat, 208]
def k0_off56 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v843 : Index := Scalar.indexCast arg15
  let c224_210 : Index := 224#32
  ![v843.toNat, 224]
def k0_off57 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v849 : Index := Scalar.indexCast arg15
  let c240_211 : Index := 240#32
  ![v849.toNat, 240]
def k0_off58 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v855 : Index := Scalar.indexCast arg15
  let c256_212 : Index := 256#32
  ![v855.toNat, 256]
def k0_off59 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v861 : Index := Scalar.indexCast arg15
  let c272_213 : Index := 272#32
  ![v861.toNat, 272]
def k0_off60 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v867 : Index := Scalar.indexCast arg15
  let c288_214 : Index := 288#32
  ![v867.toNat, 288]
def k0_off61 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v873 : Index := Scalar.indexCast arg15
  let c304_215 : Index := 304#32
  ![v873.toNat, 304]
def k0_off62 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v879 : Index := Scalar.indexCast arg15
  let c320_216 : Index := 320#32
  ![v879.toNat, 320]
def k0_off63 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v885 : Index := Scalar.indexCast arg15
  let c336_217 : Index := 336#32
  ![v885.toNat, 336]
def k0_off64 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v891 : Index := Scalar.indexCast arg15
  let c352_218 : Index := 352#32
  ![v891.toNat, 352]
def k0_off65 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v897 : Index := Scalar.indexCast arg15
  let c368_219 : Index := 368#32
  ![v897.toNat, 368]
def k0_off66 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v903 : Index := Scalar.indexCast arg15
  let c384_220 : Index := 384#32
  ![v903.toNat, 384]
def k0_off67 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v909 : Index := Scalar.indexCast arg15
  let c400_221 : Index := 400#32
  ![v909.toNat, 400]
def k0_off68 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v915 : Index := Scalar.indexCast arg15
  let c416_222 : Index := 416#32
  ![v915.toNat, 416]
def k0_off69 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v921 : Index := Scalar.indexCast arg15
  let c432_223 : Index := 432#32
  ![v921.toNat, 432]
def k0_off70 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v927 : Index := Scalar.indexCast arg15
  let c448_224 : Index := 448#32
  ![v927.toNat, 448]
def k0_off71 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v933 : Index := Scalar.indexCast arg15
  let c464_225 : Index := 464#32
  ![v933.toNat, 464]
def k0_off72 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v939 : Index := Scalar.indexCast arg15
  let c480_226 : Index := 480#32
  ![v939.toNat, 480]
def k0_off73 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v945 : Index := Scalar.indexCast arg15
  let c496_227 : Index := 496#32
  ![v945.toNat, 496]
def k0_cond4 (k0_t2 : Fin k0_t2_loop.trips) : BitVec 1 :=
  let c2_i32_84 : BitVec 32 := 2#32
  let c0_i32_5 : BitVec 32 := 0#32
  let c1_i32_6 : BitVec 32 := 1#32
  let arg14 : BitVec 32 := Scf.iv c0_i32_5 c1_i32_6 k0_t2
  let v386 : BitVec 32 := Scalar.muli c2_i32_84 arg14
  let c1_i32_85 : BitVec 32 := 1#32
  let v387 : BitVec 32 := Scalar.addi v386 c1_i32_85
  let c2_i32_96 : BitVec 32 := 2#32
  let v397 : BitVec 1 := Scalar.cmpi .sge v387 c2_i32_96
  let v398 : BitVec 32 := Scalar.extui v397
  let c0_i32_97 : BitVec 32 := 0#32
  let v399 : BitVec 1 := Scalar.cmpi .ne v398 c0_i32_97
  v399

def k0_off74 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let c2_i32_84 : BitVec 32 := 2#32
  let c0_i32_5 : BitVec 32 := 0#32
  let c1_i32_6 : BitVec 32 := 1#32
  let arg14 : BitVec 32 := Scf.iv c0_i32_5 c1_i32_6 k0_t2
  let v386 : BitVec 32 := Scalar.muli c2_i32_84 arg14
  let c1_i32_85 : BitVec 32 := 1#32
  let v387 : BitVec 32 := Scalar.addi v386 c1_i32_85
  let c512_i32_195 : BitVec 32 := 512#32
  let v756 : BitVec 32 := Scalar.muli v387 c512_i32_195
  let v757 : BitVec 32 := Scalar.addi v2 v756
  ![v757.toNat]
def k0_off75 (i : grid0.Coords) (c18432_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19456_i32 : BitVec 32 := 19456#32
  let v2 : BitVec 32 := Scalar.muli v1 c19456_i32
  let v10 : BitVec 32 := Scalar.addi v2 c18432_i32
  ![v10.toNat]
abbrev grid1 : Pipeline.Grid := ⟨1, ![52], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c76_i32 : BitVec 32 := 76#32
  let v0 : BitVec 32 := Scalar.addi arg0 c76_i32
  let c0_i32 : BitVec 32 := 0#32
  let c0_i32_0 : BitVec 32 := 0#32
  ![c0_i32.toNat, v0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1048576 : Shape := ⟨2, ![64, 1048576]⟩
abbrev S64 : Shape := ⟨1, ![64]⟩
abbrev S1048576x64 : Shape := ⟨2, ![1048576, 64]⟩
abbrev S1048576 : Shape := ⟨1, ![1048576]⟩
abbrev S1048576x1 : Shape := ⟨2, ![1048576, 1]⟩
abbrev S1x64 : Shape := ⟨2, ![1, 64]⟩
abbrev S_ : Shape := ⟨0, ![]⟩
abbrev S1048576x2 : Shape := ⟨2, ![1048576, 2]⟩
abbrev S1048576x64x1 : Shape := ⟨3, ![1048576, 64, 1]⟩
abbrev S1048576x64x2 : Shape := ⟨3, ![1048576, 64, 2]⟩

abbrev nBuf : Space → Nat
  | .hbm => 42
  | .vmem => 0
  | .smem => 0
  | _ => 0

abbrev bufTy : (tb : Table) → Fin (tcTables nBuf tb) → BufTy
  | .hbm, ⟨0, _⟩ => ⟨S64x1048576, .i32⟩
  | .hbm, ⟨1, _⟩ => ⟨S64, .f32⟩
  | .hbm, ⟨2, _⟩ => ⟨S1048576x64, .i32⟩
  | .hbm, ⟨3, _⟩ => ⟨S1048576, .i32⟩
  | .hbm, ⟨4, _⟩ => ⟨S1048576x1, .i32⟩
  | .hbm, ⟨5, _⟩ => ⟨S1048576x64, .i32⟩
  | .hbm, ⟨6, _⟩ => ⟨S1x64, .f32⟩
  | .hbm, ⟨7, _⟩ => ⟨S1048576x64, .f32⟩
  | .hbm, ⟨8, _⟩ => ⟨S_, .f32⟩
  | .hbm, ⟨9, _⟩ => ⟨S1048576x2, .f32⟩
  | .hbm, ⟨10, _⟩ => ⟨S_, .i32⟩
  | .hbm, ⟨11, _⟩ => ⟨S1048576x64, .i32⟩
  | .hbm, ⟨12, _⟩ => ⟨S1048576x64, .i1⟩
  | .hbm, ⟨13, _⟩ => ⟨S_, .i32⟩
  | .hbm, ⟨14, _⟩ => ⟨S1048576x64, .i32⟩
  | .hbm, ⟨15, _⟩ => ⟨S1048576x64, .i32⟩
  | .hbm, ⟨16, _⟩ => ⟨S1048576x64, .i32⟩
  | .hbm, ⟨17, _⟩ => ⟨S_, .i32⟩
  | .hbm, ⟨18, _⟩ => ⟨S1048576x64, .i32⟩
  | .hbm, ⟨19, _⟩ => ⟨S1048576x64, .i1⟩
  | .hbm, ⟨20, _⟩ => ⟨S_, .i32⟩
  | .hbm, ⟨21, _⟩ => ⟨S1048576x64, .i32⟩
  | .hbm, ⟨22, _⟩ => ⟨S1048576x64, .i32⟩
  | .hbm, ⟨23, _⟩ => ⟨S1048576x64, .i32⟩
  | .hbm, ⟨24, _⟩ => ⟨S1048576x64x1, .i32⟩
  | .hbm, ⟨25, _⟩ => ⟨S1048576x64x1, .i32⟩
  | .hbm, ⟨26, _⟩ => ⟨S1048576x64x2, .i32⟩
  | .hbm, ⟨27, _⟩ => ⟨S1048576x2, .f32⟩
  | .hbm, ⟨28, _⟩ => ⟨S1048576x2, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1048576x2, .i32⟩
  | .hbm, ⟨33, _⟩ => ⟨S1048576x2, .i32⟩
  | .hbm, ⟨34, _⟩ => ⟨S_, .i32⟩
  | .hbm, ⟨35, _⟩ => ⟨S1048576x2, .i32⟩
  | .hbm, ⟨36, _⟩ => ⟨S1048576x2, .i32⟩
  | .hbm, ⟨37, _⟩ => ⟨S1048576x2, .i32⟩
  | .hbm, ⟨38, _⟩ => ⟨S_, .i32⟩
  | .hbm, ⟨39, _⟩ => ⟨S_, .i32⟩
  | .hbm, ⟨40, _⟩ => ⟨S1048576, .i32⟩
  | .hbm, ⟨41, _⟩ => ⟨S1048576, .i32⟩
  | _, _ => ⟨S64x1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_call1_v0 : Ref sig .tc := ⟨.hbm, 37, rfl⟩
abbrev main_call1_c : Ref sig .tc := ⟨.hbm, 38, rfl⟩
abbrev main_call1_c_0 : Ref sig .tc := ⟨.hbm, 39, rfl⟩
abbrev main_call1_v1_0 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Proof.Common.lean ====
/-
  The values the two halves of the vote compute, over any float values: the running count of the products
  `vote · weight` down a column, the running total of the weights, and the word each half writes for a column.
-/
module

public import proofs.«01_k».proof.Defs
public import Idealize.ShloMosaic.Lib.Tactic
public import Idealize.ShloMosaic.Lib.VecWindow
public import Idealize.ShloMosaic.Lib.ValueLayout
public import Idealize.ShloMosaic.Lib.Pointwise.Index
public import Idealize.ShloMosaic.Lib.SparseCore.Quiescent
public import Idealize.ShloMosaic.Lib.SparseCore.Ops
public import Idealize.ShloMosaic.Lib.StableHlo.Run
public import Idealize.ShloMosaic.Lib.Pipeline.Kit
public import proofs.«01_k».proof.Proof.Gen.KernelIdeal
public import proofs.«01_k».proof.Proof.Gen.KernelIdeal.Skeleton

@[expose] public section

noncomputable section

namespace Cert.Proof.Vote

open Cert.KernelIdeal Cert.KernelIdeal.Gen
open Idealize.ShloMosaic

variable {F : FTy → Type} [FloatOps F]

/-- The float zero every sum starts from. -/
def zeroF : F .f32 := Scalar.ofBits .f32 0x00000000#32

/-- The count of a column after `k` rows: the products of the votes `Z` and the weights `W`, added in row order. -/
def cnt (W : Fin 64 → F .f32) (Z : Fin 64 → BitVec 32) : ℕ → F .f32
  | 0 => zeroF
  | k + 1 => if h : k < 64 then FloatOps.addf (cnt W Z k) (FloatOps.mulf (FloatOps.sitofp .f32 (Z ⟨k, h⟩)) (W ⟨k, h⟩)) else cnt W Z k

/-- The total of the first `k` weights, added in row order. -/
def tot (W : Fin 64 → F .f32) : ℕ → F .f32
  | 0 => zeroF
  | k + 1 => if h : k < 64 then FloatOps.addf (tot W k) (W ⟨k, h⟩) else tot W k

/-- The word a SparseCore column gets from the total `s` and the count `c`: the sign bit of `⌊s - c⌋ - ⌊c⌋`. -/
def word (s c : F .f32) : BitVec 32 :=
  IntOp.andi (IntOp.shrsi .vector (IntOp.subi (FloatOps.fptosi 32 (FloatOps.subf s c)) (FloatOps.fptosi 32 c)) 31#32) 1#32

/-- Column `16·sl + x` of a staged chunk, the column lane `x` of accumulator `sl` counts. -/
def colOf (sl : Fin 32) (x : Fin 16) : Fin 512 := ⟨16 * sl.val + x.val, by omega⟩

/-- Accumulator `sl` after `k` rows: lane by lane the count of its column of the chunk `X`, by lane `x`'s weights of `W`. -/
def lane (W : Vec F S64x16 .f32) (X : Vec F S64x512 .i32) (k : ℕ) (sl : Fin 32) : FVec F S16 .f32 :=
  fun x => cnt (fun r => W (ix2 r (x 0))) (fun r => X (ix2 r (colOf sl (x 0)))) k

/-- The lanes' totals of the first `k` rows of `W`. -/
def totL (W : Vec F S64x16 .f32) (k : ℕ) : FVec F S16 .f32 :=
  fun x => tot (fun r => W (ix2 r (x 0))) k

/-- A one-row window read as a vector of lanes. -/
theorem cast_row {α : Type} (v : S1x16.Idx → α) (i : Fin 16) :
    shapeCast S16 v shapeCasts_S1x16_S16 (ix1 i) = v (ix2 (0 : Fin 1) i) :=
  ValueIdx.shapeCast_1a_a_apply v shapeCasts_S1x16_S16 i

/-- One row more of a lane's count: the row's vote and weight as two one-row windows at offsets known in closed form. -/
theorem lane_step (W : Vec F S64x16 .f32) (X : Vec F S64x512 .i32) (k : ℕ) (hk : k < 64) (sl : Fin 32)
    {oW oX : Fin 2 → ℕ} (eW : oW = ![k, 0]) (eX : oX = ![k, 16 * sl.val])
    (hW : ∀ a, oW a + S1x16.size a ≤ S64x16.size a) (hX : ∀ a, oX a + S1x16.size a ≤ S64x512.size a) :
    (fun x : S16.Idx => FloatOps.addf (lane W X k sl x)
      (FloatOps.mulf (FloatOps.sitofp .f32 (shapeCast S16 (VecWindow.window X oX S1x16.size hX) shapeCasts_S1x16_S16 x))
        (shapeCast S16 (VecWindow.window W oW S1x16.size hW) shapeCasts_S1x16_S16 x))) = lane W X (k + 1) sl := by
  subst eW eX
  funext x
  obtain ⟨i, rfl⟩ : ∃ i : Fin 16, x = ix1 i := ⟨x 0, by funext a; match a with | ⟨0, _⟩ => rfl⟩
  rw [cast_row, cast_row]
  show _ = cnt _ _ (k + 1)
  rw [cnt, dif_pos hk]
  congr 3
  · exact congrArg X (funext fun a => Fin.ext (by
      match a with
      | ⟨0, _⟩ => show k + 1 * 0 = k; omega
      | ⟨1, _⟩ => show 16 * sl.val + 1 * i.val = 16 * sl.val + i.val; omega))
  · exact congrArg W (funext fun a => Fin.ext (by
      match a with
      | ⟨0, _⟩ => show k + 1 * 0 = k; omega
      | ⟨1, _⟩ => show 0 + 1 * i.val = i.val; omega))

/-- One row more of the lanes' totals. -/
theorem totL_step (W : Vec F S64x16 .f32) (k : ℕ) (hk : k < 64) {oW : Fin 2 → ℕ} (eW : oW = ![k, 0])
    (hW : ∀ a, oW a + S1x16.size a ≤ S64x16.size a) :
    (fun x : S16.Idx => FloatOps.addf (totL W k x)
        (shapeCast S16 (VecWindow.window W oW S1x16.size hW) shapeCasts_S1x16_S16 x)) = totL W (k + 1) := by
  subst eW
  funext x
  obtain ⟨i, rfl⟩ : ∃ i : Fin 16, x = ix1 i := ⟨x 0, by funext a; match a with | ⟨0, _⟩ => rfl⟩
  rw [cast_row]
  show _ = tot _ (k + 1)
  rw [tot, dif_pos hk]
  congr 1
  exact congrArg W (funext fun a => Fin.ext (by
      match a with
      | ⟨0, _⟩ => show k + 1 * 0 = k; omega
      | ⟨1, _⟩ => show 0 + 1 * i.val = i.val; omega))

/-- The thirty-two accumulators a counting loop carries, from a function of their number. -/
def tup {α : Type} (g : Fin 32 → α) :
    α × α × α × α × α × α × α × α × α × α × α × α × α × α × α × α × α × α × α × α × α × α × α × α × α × α × α × α × α × α × α × α :=
  (g 0, g 1, g 2, g 3, g 4, g 5, g 6, g 7, g 8, g 9, g 10, g 11, g 12, g 13, g 14, g 15,
    g 16, g 17, g 18, g 19, g 20, g 21, g 22, g 23, g 24, g 25, g 26, g 27, g 28, g 29, g 30, g 31)

/-- The accumulators start from zero. -/
theorem tup_zero (W : Vec F S64x16 .f32) (X : Vec F S64x512 .i32) :
    tup (lane W X 0) = tup (fun _ => k0_pay58 (F := F)) := rfl

end Cert.Proof.Vote

end
-- ==== Proof.Setup.lean ====
/-
  The program as the launch theorem sees it, and the names the SparseCore half's proof uses: the configuration, the
  resource algebra, a tile's thread, its buffers and the counting loops' regions at those buffers.
-/
module

public import proofs.«01_k».proof.Proof.Common

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the TensorCore's pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The call runs on 16 tiles of each SparseCore -/
theorem nSub_K : (K (F := F)).nSub 0 = 16 := rfl
/-- and on two SparseCores. -/
theorem nCore_K : (K (F := F)).nCore 0 = 2 := rfl
/-- The kernels' bodies. -/
abbrev D [FloatOps F] : Defs nD τ sig (Elt F) (ΛP (F := F)) := Pipeline.defs pcfgs defs₀
/-- No loop of the host needs a variant; -/
abbrev 𝒱₀ : Variants := Variants.none
/-- lifted to the SparseCore's labels; -/
abbrev 𝒱 : Variants := 𝒱₀.lift
/-- the one there is. -/
abbrev v₀ : 𝒱.V := Sum.inl none

/-- The launch's handshake cells are distinct, unscoped, and no array is a SparseCore's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- The certificate's algebra: the launch's rounds, the rounds of the TensorCore half's staging buffers, the transfers' counters. -/
abbrev UU : Type := UH × (UR sig nD τ × Counters)

local notation "𝕄" => MT nD τ sig (HIx 1) (Elt F) ℕ UU ℕ

/-- Where the handshakes' ghost state lies. -/
abbrev EH : Emb UH (MT nD τ sig (HIx 1) (Elt F) ℕ UU ℕ) := embL
/-- Where the pipeline's ghost state lies. -/
abbrev EP : Emb (UR sig nD τ) (MT nD τ sig (HIx 1) (Elt F) ℕ UU ℕ) := (Emb.inl : Emb (UR sig nD τ) (UR sig nD τ × Counters)).trans embR

/-- The pipeline's ghost state lies among the user's. -/
instance EP_landsIn : (EP (F := F)).LandsIn (upEmb : UEmb _ (MT nD τ sig (HIx 1) (Elt F) ℕ UU ℕ)) := by
  unfold EP; infer_instance

/-! ## A tile and its buffers -/

local notation "vV" => (Memref.whole Cert.KernelIdeal.main_arg0_scv : Memref Cert.KernelIdeal.sig Kind.scVector Space.hbm Cert.KernelIdeal.S64x1048576 EltTy.i32)
local notation "wV" => (Memref.whole Cert.KernelIdeal.main_v1_scv : Memref Cert.KernelIdeal.sig Kind.scVector Space.hbm Cert.KernelIdeal.S64x16 EltTy.f32)
local notation "oV" => (Memref.whole Cert.KernelIdeal.main_v2_scv : Memref Cert.KernelIdeal.sig Kind.scVector Space.hbm Cert.KernelIdeal.S622592 EltTy.i32)
local notation "bW" => (Memref.whole Cert.KernelIdeal.cc0_scratch0 : Memref Cert.KernelIdeal.sig Kind.scVector Space.vmem Cert.KernelIdeal.S64x16 EltTy.f32)
local notation "b0" => (Memref.whole Cert.KernelIdeal.cc0_scratch1 : Memref Cert.KernelIdeal.sig Kind.scVector Space.vmem Cert.KernelIdeal.S64x512 EltTy.i32)
local notation "b1" => (Memref.whole Cert.KernelIdeal.cc0_scratch2 : Memref Cert.KernelIdeal.sig Kind.scVector Space.vmem Cert.KernelIdeal.S64x512 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-- The SparseCore at a pair of coordinates. -/
abbrev cV (L : grid0.Coords) : Fin τ.nSC := (L 0).castLE hcore0
/-- The tile at a pair of coordinates. -/
abbrev jV (L : grid0.Coords) : Fin τ.nSub := (L 1).castLE hsub0
/-- The thread of tile `L` of device `d`. -/
abbrev thr (d : Dev nD) (L : grid0.Coords) : Thread nD τ := V d (cV L) (jV L)

variable [FloatOps F]

/-- The regions of the tile's loops, at the tile's buffers. -/
abbrev bodyT1 (L : grid0.Coords) :=
  k0_t1_body (F := F) L vV (Memref.isWhole_whole _) wV (Memref.isWhole_whole _) oV (Memref.isWhole_whole _) bW (Memref.isWhole_whole _)
    b0 (Memref.isWhole_whole _) b1 (Memref.isWhole_whole _) o0 (Memref.isWhole_whole _) o1 (Memref.isWhole_whole _)
    cc0_scratch5 cc0_scratch6 cc0_scratch7 cc0_scratch8 cc0_scoped0
/-- One trip of the outer loop. -/
abbrev bodyT2 (L : grid0.Coords) (v2 : BitVec 32) (v5 : FVec F S16 .f32) :=
  k0_t2_body (F := F) L vV (Memref.isWhole_whole _) wV (Memref.isWhole_whole _) oV (Memref.isWhole_whole _) bW (Memref.isWhole_whole _)
    b0 (Memref.isWhole_whole _) b1 (Memref.isWhole_whole _) o0 (Memref.isWhole_whole _) o1 (Memref.isWhole_whole _)
    cc0_scratch5 cc0_scratch6 cc0_scratch7 cc0_scratch8 cc0_scoped0 v2 v5
/-- One trip of the count over the first buffer. -/
abbrev bodyT3 (L : grid0.Coords) (v2 : BitVec 32) (v5 : FVec F S16 .f32) (c0 c1 : BitVec 32) (t : Fin k0_t2_loop.trips) :=
  k0_t3_body (F := F) L vV (Memref.isWhole_whole _) wV (Memref.isWhole_whole _) oV (Memref.isWhole_whole _) bW (Memref.isWhole_whole _)
    b0 (Memref.isWhole_whole _) b1 (Memref.isWhole_whole _) o0 (Memref.isWhole_whole _) o1 (Memref.isWhole_whole _)
    cc0_scratch5 cc0_scratch6 cc0_scratch7 cc0_scratch8 cc0_scoped0 v2 v5 c0 c1 t
/-- One trip of the count over the second buffer. -/
abbrev bodyT4 (L : grid0.Coords) (v2 : BitVec 32) (v5 : FVec F S16 .f32) (t : Fin k0_t2_loop.trips) (u : BitVec 32) (z : FVec F S16 .f32) (c0 : BitVec 32) :=
  k0_t4_body (F := F) L vV (Memref.isWhole_whole _) wV (Memref.isWhole_whole _) oV (Memref.isWhole_whole _) bW (Memref.isWhole_whole _)
    b0 (Memref.isWhole_whole _) b1 (Memref.isWhole_whole _) o0 (Memref.isWhole_whole _) o1 (Memref.isWhole_whole _)
    cc0_scratch5 cc0_scratch6 cc0_scratch7 cc0_scratch8 cc0_scoped0 v2 v5 t u z c0

end Cert.Proof.Vote

end
-- ==== Proof.Block.lean ====
/-
  The TensorCore half's body at one grid point: what it stores over the result's staging buffer, from the votes' block and
  the weights' column it loads.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Vote

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The rectangle of a buffer's own sizes at zero offsets is all of it: its indices are the buffer's. -/
theorem unit_emb {s : Shape} (o : Fin s.rank → Nat) (inb : ∀ a, o a + s.size a ≤ s.size a) (h : ∀ a, o a = 0) (y : s.Idx) :
    (Rect.unit (s := s) o s.size inb).emb y = y := by
  funext a
  apply Fin.ext
  show o a + 1 * (y a).val = (y a).val
  rw [h a]; omega

/-- A load through that rectangle reads the memref. -/
theorem read_whole_rect {s : Shape} {e : EltTy} {sp : Space} (M : Memref sig .tc sp s e) (o : Fin s.rank → Nat) (inb : ∀ a, o a + s.size a ≤ s.size a)
    (h : ∀ a, o a = 0) (f : M.view.ty.Contents (Elt F)) :
    (M.access (Rect.unit (s := s) o s.size inb)).read (Elt F) f = M.view.read (Elt F) f := by
  funext y
  exact congrArg (M.view.read (Elt F) f) (unit_emb o inb h y)

/-- A store of every element through that rectangle leaves the stored vector. -/
theorem read_write_whole_rect {s : Shape} {e : EltTy} {sp : Space} (M : Memref sig .tc sp s e) (o : Fin s.rank → Nat) (inb : ∀ a, o a + s.size a ≤ s.size a)
    (h : ∀ a, o a = 0) (f : M.view.ty.Contents (Elt F)) (v : s.Idx → Elt F e) :
    M.view.read (Elt F) ((M.access (Rect.unit (s := s) o s.size inb)).write (Elt F) f v Finset.univ) = v := by
  funext y
  conv_lhs => rw [← unit_emb o inb h y]
  exact View.read_slice_write_emb _ _ _ (Finset.mem_univ _)

/-- The body at a point, over any staging memrefs: from the weights' column at `x0` and the votes' block at `x1` it leaves
    both as they were and the result's staging buffer at the printed payload of the two. -/
theorem block_body (c : Dev nD) (i : grid1.Coords) (M0 : Memref sig .tc .vmem S64x1 .f32) (h0 : M0.IsWhole)
    (M1 : Memref sig .tc .vmem S64x8192 .i32) (h1 : M1.IsWhole) (M2 : Memref sig .tc .vmem S8192 .i32) (h2 : M2.IsWhole)
    (x0 : Vec F S64x1 .f32) (x1 : Vec F S64x8192 .i32) (x2 : Vec F S8192 .i32) :
    iprop(owns (c : Thread nD τ) M0 fullShare x0 ∗ owns (c : Thread nD τ) M1 fullShare x1 ∗ owns (c : Thread nD τ) M2 fullShare x2)
      ⊢ wp frame (wpE (defs₀ (F := F)) 𝒱₀ (c : Thread nD τ) none) Set.univ (cc1__vote_tc_body i M0 h0 M1 h1 M2 h2) fun _ =>
        (iprop(owns (c : Thread nD τ) M0 fullShare x0 ∗ owns (c : Thread nD τ) M1 fullShare x1
          ∗ owns (c : Thread nD τ) M2 fullShare (k1_pay1 x1 x0)) : sProp 𝕄) := by
  rw [cc1__vote_tc_body_eq_skeleton]
  unfold cc1__vote_tc_body_skel owns
  simp only [Prog.lift, Prog.bind_op, Prog.bind_ret]
  iintro ⟨⟨%f0, %e0, H0⟩, ⟨%f1, %e1, H1⟩, ⟨%f2, %e2, H2⟩⟩
  iapply (wp_load_rect 𝒱₀ (c : Thread nD τ) none Set.univ (m := M1) (r := Rect.unit (s := S64x8192) ![0, 0] S64x8192.size inb_S64x8192_S64x8192_0_0) (View.set_slice_subset _ _)) $$ H1
  iintro H1
  iapply (wp_load_rect 𝒱₀ (c : Thread nD τ) none Set.univ (m := M0) (r := Rect.unit (s := S64x1) ![0, 0] S64x1.size inb_S64x1_S64x1_0_0) (View.set_slice_subset _ _)) $$ H0
  iintro H0
  iapply (wp_load_rect 𝒱₀ (c : Thread nD τ) none Set.univ (m := M2) (r := Rect.unit (s := S8192) ![0] S8192.size inb_S8192_S8192_0) (View.set_slice_subset _ _)) $$ H2
  iintro H2
  iapply (wp_store 𝒱₀ (c : Thread nD τ) none Set.univ (m := M2) (r := Rect.unit (s := S8192) ![0] S8192.size inb_S8192_S8192_0) (Mk := Finset.univ) (View.set_slice_subset _ _)) $$ H2
  iintro H2
  rw [wp_pure]
  imodintro
  isplitl [H0]
  · iexists f0; isplitr; · ipureintro; exact e0
    iexact H0
  isplitl [H1]
  · iexists f1; isplitr; · ipureintro; exact e1
    iexact H1
  iexists _; isplitr; swap; · iexact H2
  ipureintro
  refine (read_write_whole_rect M2 ![0] _ (by decide) _ _).trans ?_
  rw [← e0, ← e1]
  exact congrArg₂ k1_pay1 (read_whole_rect M1 ![0, 0] _ (by decide) _) (read_whole_rect M0 ![0, 0] _ (by decide) _)

end Cert.Proof.Vote

end
-- ==== Proof.Region.lean ====
/-
  The TensorCore half as a region of @main: its proof data, the body obligation, and the region around the three arrays.
-/
module

public import proofs.«01_k».proof.Proof.Block
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Vote

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The TensorCore pipeline's admissible prefetch: it prefetches nothing. -/
abbrev adm : (p : Fin 1) → (pcfgs (F := F) p).Adm := fun p => (cfgs p).toPCfg_adm

variable (x3 : (c : Dev nD) → Buf (Elt F) ((c : Thread nD τ).loc main_v3)) (x0 : (c : Dev nD) → Buf (Elt F) ((c : Thread nD τ).loc main_arg0))
  (x4 : (c : Dev nD) → Buf (Elt F) ((c : Thread nD τ).loc main_v4))

/-- The arrays' contents at the region's entry. -/
def entryA (c : Dev nD) : (w : Fin cfg1.W) → Buf (Elt F) ((cfg1.win w).arr.view.loc (c : Thread nD τ))
  | ⟨0, _⟩ => x3 c
  | ⟨1, _⟩ => x0 c
  | ⟨2, _⟩ => x4 c

/-- The weights' column as point `t` reads it. -/
abbrev blkW (c : Dev nD) (t : Fin cfg1.N) : Vec F S64x1 .f32 := ((cfg1.win 0).blk t).view.read (Elt F) (x3 c)

/-- The votes' block as point `t` reads it. -/
abbrev blkV (c : Dev nD) (t : Fin cfg1.N) : Vec F S64x8192 .i32 := ((cfg1.win 1).blk t).view.read (Elt F) (x0 c)

/-- Each staging buffer's contents after the body at a point: the two inputs as fetched, the result at the payload. -/
def afterW (c : Dev nD) : (w : Fin cfg1.W) → (t : Fin cfg1.N) → (cfg1.win w).block.Idx → Elt F (cfg1.win w).elt
  | ⟨0, _⟩ => fun t => blkW x3 c t
  | ⟨1, _⟩ => fun t => blkV x0 c t
  | ⟨2, _⟩ => fun t => k1_pay1 (blkV x0 c t) (blkW x3 c t)

/-- The region's proof data: the arrays at entry, what each point leaves, nothing owed but what the core owes the launch. -/
def dat (c : Dev nD) : Dat τ (Elt F) (HIx 1) ℕ UU ℕ cfg1 c where
  A := entryA x3 x0 x4 c
  after := afterW x3 x0 c
  Φ _ := BI.emp
  q _ := fullShare
  owed _ := (K (F := F)).Otc c 1
  recorded _ := {p | (K (F := F)).lev (T c, p.1) p.2 ≤ 8}

/-- The family over the program's one pipeline. -/
def dats : (p : Fin 1) → (c : Dev nD) → Dat τ (Elt F) (HIx 1) ℕ UU ℕ (Pipeline.pin (pcfgs (F := F)) adm p) c
  | ⟨0, _⟩ => fun c => dat x3 x0 x4 c

/-- The weights' staging buffer holds the column when the body runs. -/
theorem before_w (c : Dev nD) (t : Fin cfg1.N) (d) : (dat x3 x0 x4 c).before 0 t d = blkW x3 c t :=
  (Dat.before_in_eq_fetched (dat x3 x0 x4 c) 0 rfl (fun _ => rfl) (fun _ _ _ => rfl) (fun _ => rfl) t d).trans rfl

/-- The votes' staging buffer holds the point's block when the body runs. -/
theorem before_v (c : Dev nD) (t : Fin cfg1.N) (d) : (dat x3 x0 x4 c).before 1 t d = blkV x0 c t :=
  (Dat.before_in_eq_fetched (dat x3 x0 x4 c) 1 rfl (fun _ => rfl) (fun _ _ _ => rfl) (fun _ => rfl) t d).trans rfl

/-- The body obligation at every point. -/
theorem body_obligation (c : Dev nD) : BodyObligation (dat x3 x0 x4 c) (defs₀ (F := F)) 𝒱₀ none Set.univ := fun t => by
  rw [bigSep_W1, bigSep_W1]
  rw [show (dat x3 x0 x4 c).owesAt none t.succ = (dat x3 x0 x4 c).owesAt none t.castSucc from rfl]
  iintro ⟨HΦ, Howes, ⟨%d0, H0⟩, ⟨%d1, H1⟩, ⟨%d2, H2⟩⟩
  rw [before_w, before_v]
  ihave HW := (block_body (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) (blkW x3 c t) (blkV x0 c t) ((dat x3 x0 x4 c).before 2 t d2)) $$ [H0 H1 H2]
  · isplitl [H0]; · iexact H0
    isplitl [H1]; · iexact H1
    iexact H2
  iapply (wp_wand _ _) $$ HW
  iintro %a ⟨H0, H1, H2⟩
  isplitl [HΦ]; · unfold dat; iexact HΦ
  isplitl [Howes]; · iexact Howes
  isplitl [H0]; · iexact H0
  isplitl [H1]; · iexact H1
  iexact H2

/-- Nothing the TensorCore still owes the launch is at the kernels' own index: after the call it owes nothing. -/
theorem Otc_none (c : Dev nD) : ((K (F := F)).Otc c 1 : CellTallies nD τ sig (HIx 1)) = 0 := (K (F := F)).Otc_end c le_rfl

/-- What the TensorCore holds of its waits between the call and the end: debts none, waits recorded at levels up to the call's. -/
abbrev owesTc (c : Dev nD) : sProp 𝕄 :=
  iprop(∃ W, ⌜(K (F := F)).WBelow (T c) W 8⌝ ∗ owes (T c) ((K (F := F)).Otc c 1) W)

set_option backward.isDefEq.respectTransparency.types false in
/-- The pipeline's arrays held are the three buffers held. -/
theorem arrays_three (c : Dev nD) (G : (w : Fin cfg1.W) → Buf (Elt F) ((cfg1.win w).arr.view.loc (c : Thread nD τ))) :
    (dats x3 x0 x4 0 c).arrays G = (iprop(((c : Thread nD τ).loc main_v3 ↦{fullShare} G 0) ∗ ((c : Thread nD τ).loc main_arg0 ↦{fullShare} G 1)
      ∗ ((c : Thread nD τ).loc main_v4 ↦{fullShare} G 2)) : sProp 𝕄) :=
  (Pipeline.arrays_eq (Pipeline.pin (pcfgs (F := F)) adm) (dats x3 x0 x4) 0 c launch1.arr_whole
      ((dats x3 x0 x4 0 c).share_full fun _ => rfl) G).trans (bigSep_W1 _)

/-- The result's array after the region. -/
def tcOut (c : Dev nD) : Buf (Elt F) ((c : Thread nD τ).loc main_v4) := (dat x3 x0 x4 c).arrAt 2 cfg1.N

set_option backward.isDefEq.respectTransparency.types false in
/-- The TensorCore half of @main: from the weights' column, the votes and the result's array, it leaves the first two as they
    were and the result's at the pipeline's write-backs. -/
def reg : Pipeline.RegionSeg (pcfgs (F := F)) adm (dats x3 x0 x4) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation x3 x0 x4 c).loose
  hwaits c := Pipeline.cellsWaits_intro _ _ _ _ c fun w s t =>
    (K (F := F)).mayWait_none _ fun g => by
      show ((K (F := F)).Otc c 1 : CellTallies nD τ sig (HIx 1)) g none = 0
      rw [Otc_none]; rfl
  pre c := iprop(((c : Thread nD τ).loc main_v3 ↦{fullShare} x3 c) ∗ ((c : Thread nD τ).loc main_arg0 ↦{fullShare} x0 c)
    ∗ ((c : Thread nD τ).loc main_v4 ↦{fullShare} x4 c) ∗ owesTc c)
  post c := iprop(((c : Thread nD τ).loc main_v3 ↦{fullShare} x3 c) ∗ ((c : Thread nD τ).loc main_arg0 ↦{fullShare} x0 c)
    ∗ ((c : Thread nD τ).loc main_v4 ↦{fullShare} tcOut x3 x0 x4 c) ∗ owesTc c)
  X _ := BI.emp
  Y _ := BI.emp
  Z _ := BI.emp
  hentry c := by
    rw [Pipeline.ownSems0_none]
    iintro ⟨⟨H3, H0, H4, %W, %hW, HO⟩, -, -⟩
    imodintro
    isplitl [H3 H0 H4]
    · iapply (Entails.of_eq (arrays_three x3 x0 x4 c _).symm)
      isplitl [H3]; · iexact H3
      isplitl [H0]; · iexact H0
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats x3 x0 x4 0 c).Φ 0 = BI.emp from rfl, show (Pipeline.scopedRest (Pipeline.pin (pcfgs (F := F)) adm 0).spec c : sProp 𝕄) = BI.emp from scopedRest1_eq c]
    iintro ⟨-, -, Hr⟩
    iexact Hr
  hout c := by
    rw [Pipeline.ownSems0_none, show (dats x3 x0 x4 0 c).Φ (Fin.last _) = BI.emp from rfl,
      show (Pipeline.scopedRest (Pipeline.pin (pcfgs (F := F)) adm 0).spec c : sProp 𝕄) = BI.emp from scopedRest1_eq c]
    iintro Hr
    isplitr; · iempintro
    isplitr; · iempintro
    iexact Hr
  hexit c := by
    iintro ⟨Ha, HO, -, -⟩
    ihave H := (Entails.of_eq (arrays_three x3 x0 x4 c _)) $$ Ha
    icases H with ⟨H3, H0, H4⟩
    imodintro
    isplitl [H3]
    · iapply (Entails.of_eq (congrArg (fun f => ((c : Thread nD τ).loc main_v3 ↦{fullShare} f : sProp 𝕄)) ((dat x3 x0 x4 c).arrAt_in 0 rfl _)))
      iexact H3
    isplitl [H0]
    · iapply (Entails.of_eq (congrArg (fun f => ((c : Thread nD τ).loc main_arg0 ↦{fullShare} f : sProp 𝕄)) ((dat x3 x0 x4 c).arrAt_in 1 rfl _)))
      iexact H0
    isplitl [H4]; · iexact H4
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.Vote

end
-- ==== Proof.Loops.lean ====
/-
  The tile's three loops that only read: the total of the weights, and the two counting loops (one per vote buffer).
  Each is stated once by an invariant giving the carried accumulators as the running values of Common.lean.
-/
module

public import proofs.«01_k».proof.Proof.Setup

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "vV" => (Memref.whole Cert.KernelIdeal.main_arg0_scv : Memref Cert.KernelIdeal.sig Kind.scVector Space.hbm Cert.KernelIdeal.S64x1048576 EltTy.i32)
local notation "wV" => (Memref.whole Cert.KernelIdeal.main_v1_scv : Memref Cert.KernelIdeal.sig Kind.scVector Space.hbm Cert.KernelIdeal.S64x16 EltTy.f32)
local notation "oV" => (Memref.whole Cert.KernelIdeal.main_v2_scv : Memref Cert.KernelIdeal.sig Kind.scVector Space.hbm Cert.KernelIdeal.S622592 EltTy.i32)
local notation "bW" => (Memref.whole Cert.KernelIdeal.cc0_scratch0 : Memref Cert.KernelIdeal.sig Kind.scVector Space.vmem Cert.KernelIdeal.S64x16 EltTy.f32)
local notation "b0" => (Memref.whole Cert.KernelIdeal.cc0_scratch1 : Memref Cert.KernelIdeal.sig Kind.scVector Space.vmem Cert.KernelIdeal.S64x512 EltTy.i32)
local notation "b1" => (Memref.whole Cert.KernelIdeal.cc0_scratch2 : Memref Cert.KernelIdeal.sig Kind.scVector Space.vmem Cert.KernelIdeal.S64x512 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-- The weights' buffer of the tile at contents `W`; the two vote buffers at contents `X`. -/
abbrev wPts (d : Dev nD) (L : grid0.Coords) (W : Vec F S64x16 .f32) : sProp 𝕄 := (bW).view.loc (thr d L) ↦{fullShare} W
/-- The first votes buffer, held whole. -/
abbrev x0Pts (d : Dev nD) (L : grid0.Coords) (X : Vec F S64x512 .i32) : sProp 𝕄 := (b0).view.loc (thr d L) ↦{fullShare} X
/-- The second votes buffer, held whole. -/
abbrev x1Pts (d : Dev nD) (L : grid0.Coords) (X : Vec F S64x512 .i32) : sProp 𝕄 := (b1).view.loc (thr d L) ↦{fullShare} X

/-- The sum of the weights takes 64 trips. -/
theorem trips1 : k0_t1_loop.trips = 64 := by decide
/-- The outer loop takes 19 trips. -/
theorem trips2 : k0_t2_loop.trips = 19 := by decide
/-- A chunk's count takes 64 trips, in the first buffer -/
theorem trips3 : k0_t3_loop.trips = 64 := by decide
/-- and in the second. -/
theorem trips4 : k0_t4_loop.trips = 64 := by decide

/-- The totals' loop: after `k` trips the carried lanes are the totals of the first `k` rows. -/
def inv1 (d : Dev nD) (L : grid0.Coords) (W : Vec F S64x16 .f32) (k : ℕ) (acc : FVec F S16 .f32) : sProp 𝕄 :=
  iprop(wPts d L W ∗ ⌜acc = totL W k⌝)

/-- One trip of the weights' sum adds the trip's weight to each lane. -/
theorem step1 (d : Dev nD) (L : grid0.Coords) (W : Vec F S64x16 .f32) (k : Fin k0_t1_loop.trips) (acc : FVec F S16 .f32) :
    inv1 d L W k acc ⊢ wp frame (wpE (defs₀ (F := F)) 𝒱₀ (thr d L) none) Set.univ (bodyT1 L k acc) (inv1 d L W (k.val + 1)) := by
  unfold inv1
  iintro ⟨HW, %h⟩
  subst h
  unfold bodyT1 k0_t1_body
  sl_exec
  sl_step
  isplitl [HW]; · iexact HW
  ipureintro
  exact totL_step W k.val (trips1 ▸ k.isLt) (k0_off1_eq k) (k0_off1_inb k)

/-- The first counting loop: after `k` trips accumulator `sl` holds its lanes' counts of the first `k` rows. -/
def inv3 (d : Dev nD) (L : grid0.Coords) (W : Vec F S64x16 .f32) (X : Vec F S64x512 .i32) (k : ℕ)
    (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(wPts d L W ∗ x0Pts d L X ∗ ⌜acc = tup (lane W X k)⌝)

/-- One trip of the count over the first buffer adds the trip's voter to each of the 32 sums. -/
theorem step3 (d : Dev nD) (L : grid0.Coords) (v2 : BitVec 32) (v5 : FVec F S16 .f32) (c0 c1 : BitVec 32) (t : Fin k0_t2_loop.trips)
    (W : Vec F S64x16 .f32) (X : Vec F S64x512 .i32) (k : Fin k0_t3_loop.trips) (acc) :
    inv3 d L W X k acc ⊢ wp frame (wpE (defs₀ (F := F)) 𝒱₀ (thr d L) none) Set.univ (bodyT3 L v2 v5 c0 c1 t k acc) (inv3 d L W X (k.val + 1)) := by
  unfold inv3
  iintro ⟨HW, HX, %h⟩
  subst h
  unfold bodyT3 k0_t3_body tup
  sl_exec
  sl_step
  isplitl [HW]; · iexact HW
  isplitl [HX]; · iexact HX
  ipureintro
  have hk : k.val < 64 := trips3 ▸ k.isLt
  have hs : ∀ (sl : Fin 32) {oX : Fin 2 → ℕ} (eX : oX = ![k.val, 16 * sl.val]) (hX : ∀ a, oX a + S1x16.size a ≤ S64x512.size a), _ :=
    fun sl _ eX hX => lane_step W X k.val hk sl (k0_off5_eq k) eX (k0_off5_inb k) hX
  exact
    (congrArg₂ Prod.mk (hs 0 (k0_off6_eq k) (k0_off6_inb k))
    (congrArg₂ Prod.mk (hs 1 (k0_off7_eq k) (k0_off7_inb k))
    (congrArg₂ Prod.mk (hs 2 (k0_off8_eq k) (k0_off8_inb k))
    (congrArg₂ Prod.mk (hs 3 (k0_off9_eq k) (k0_off9_inb k))
    (congrArg₂ Prod.mk (hs 4 (k0_off10_eq k) (k0_off10_inb k))
    (congrArg₂ Prod.mk (hs 5 (k0_off11_eq k) (k0_off11_inb k))
    (congrArg₂ Prod.mk (hs 6 (k0_off12_eq k) (k0_off12_inb k))
    (congrArg₂ Prod.mk (hs 7 (k0_off13_eq k) (k0_off13_inb k))
    (congrArg₂ Prod.mk (hs 8 (k0_off14_eq k) (k0_off14_inb k))
    (congrArg₂ Prod.mk (hs 9 (k0_off15_eq k) (k0_off15_inb k))
    (congrArg₂ Prod.mk (hs 10 (k0_off16_eq k) (k0_off16_inb k))
    (congrArg₂ Prod.mk (hs 11 (k0_off17_eq k) (k0_off17_inb k))
    (congrArg₂ Prod.mk (hs 12 (k0_off18_eq k) (k0_off18_inb k))
    (congrArg₂ Prod.mk (hs 13 (k0_off19_eq k) (k0_off19_inb k))
    (congrArg₂ Prod.mk (hs 14 (k0_off20_eq k) (k0_off20_inb k))
    (congrArg₂ Prod.mk (hs 15 (k0_off21_eq k) (k0_off21_inb k))
    (congrArg₂ Prod.mk (hs 16 (k0_off22_eq k) (k0_off22_inb k))
    (congrArg₂ Prod.mk (hs 17 (k0_off23_eq k) (k0_off23_inb k))
    (congrArg₂ Prod.mk (hs 18 (k0_off24_eq k) (k0_off24_inb k))
    (congrArg₂ Prod.mk (hs 19 (k0_off25_eq k) (k0_off25_inb k))
    (congrArg₂ Prod.mk (hs 20 (k0_off26_eq k) (k0_off26_inb k))
    (congrArg₂ Prod.mk (hs 21 (k0_off27_eq k) (k0_off27_inb k))
    (congrArg₂ Prod.mk (hs 22 (k0_off28_eq k) (k0_off28_inb k))
    (congrArg₂ Prod.mk (hs 23 (k0_off29_eq k) (k0_off29_inb k))
    (congrArg₂ Prod.mk (hs 24 (k0_off30_eq k) (k0_off30_inb k))
    (congrArg₂ Prod.mk (hs 25 (k0_off31_eq k) (k0_off31_inb k))
    (congrArg₂ Prod.mk (hs 26 (k0_off32_eq k) (k0_off32_inb k))
    (congrArg₂ Prod.mk (hs 27 (k0_off33_eq k) (k0_off33_inb k))
    (congrArg₂ Prod.mk (hs 28 (k0_off34_eq k) (k0_off34_inb k))
    (congrArg₂ Prod.mk (hs 29 (k0_off35_eq k) (k0_off35_inb k))
    (congrArg₂ Prod.mk (hs 30 (k0_off36_eq k) (k0_off36_inb k))
      (hs 31 (k0_off37_eq k) (k0_off37_inb k)))))))))))))))))))))))))))))))))

/-- The second counting loop, over the other vote buffer. -/
def inv4 (d : Dev nD) (L : grid0.Coords) (W : Vec F S64x16 .f32) (X : Vec F S64x512 .i32) (k : ℕ)
    (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(wPts d L W ∗ x1Pts d L X ∗ ⌜acc = tup (lane W X k)⌝)

/-- One trip of the count over the second buffer adds the trip's voter to each of the 32 sums. -/
theorem step4 (d : Dev nD) (L : grid0.Coords) (v2 : BitVec 32) (v5 : FVec F S16 .f32) (t : Fin k0_t2_loop.trips)
    (u : BitVec 32) (z : FVec F S16 .f32) (c0 : BitVec 32)
    (W : Vec F S64x16 .f32) (X : Vec F S64x512 .i32) (k : Fin k0_t4_loop.trips) (acc) :
    inv4 d L W X k acc ⊢ wp frame (wpE (defs₀ (F := F)) 𝒱₀ (thr d L) none) Set.univ (bodyT4 L v2 v5 t u z c0 k acc) (inv4 d L W X (k.val + 1)) := by
  unfold inv4
  iintro ⟨HW, HX, %h⟩
  subst h
  unfold bodyT4 k0_t4_body tup
  sl_exec
  sl_step
  isplitl [HW]; · iexact HW
  isplitl [HX]; · iexact HX
  ipureintro
  have hk : k.val < 64 := trips4 ▸ k.isLt
  have hs : ∀ (sl : Fin 32) {oX : Fin 2 → ℕ} (eX : oX = ![k.val, 16 * sl.val]) (hX : ∀ a, oX a + S1x16.size a ≤ S64x512.size a), _ :=
    fun sl _ eX hX => lane_step W X k.val hk sl (k0_off41_eq k) eX (k0_off41_inb k) hX
  exact
    (congrArg₂ Prod.mk (hs 0 (k0_off42_eq k) (k0_off42_inb k))
    (congrArg₂ Prod.mk (hs 1 (k0_off43_eq k) (k0_off43_inb k))
    (congrArg₂ Prod.mk (hs 2 (k0_off44_eq k) (k0_off44_inb k))
    (congrArg₂ Prod.mk (hs 3 (k0_off45_eq k) (k0_off45_inb k))
    (congrArg₂ Prod.mk (hs 4 (k0_off46_eq k) (k0_off46_inb k))
    (congrArg₂ Prod.mk (hs 5 (k0_off47_eq k) (k0_off47_inb k))
    (congrArg₂ Prod.mk (hs 6 (k0_off48_eq k) (k0_off48_inb k))
    (congrArg₂ Prod.mk (hs 7 (k0_off49_eq k) (k0_off49_inb k))
    (congrArg₂ Prod.mk (hs 8 (k0_off50_eq k) (k0_off50_inb k))
    (congrArg₂ Prod.mk (hs 9 (k0_off51_eq k) (k0_off51_inb k))
    (congrArg₂ Prod.mk (hs 10 (k0_off52_eq k) (k0_off52_inb k))
    (congrArg₂ Prod.mk (hs 11 (k0_off53_eq k) (k0_off53_inb k))
    (congrArg₂ Prod.mk (hs 12 (k0_off54_eq k) (k0_off54_inb k))
    (congrArg₂ Prod.mk (hs 13 (k0_off55_eq k) (k0_off55_inb k))
    (congrArg₂ Prod.mk (hs 14 (k0_off56_eq k) (k0_off56_inb k))
    (congrArg₂ Prod.mk (hs 15 (k0_off57_eq k) (k0_off57_inb k))
    (congrArg₂ Prod.mk (hs 16 (k0_off58_eq k) (k0_off58_inb k))
    (congrArg₂ Prod.mk (hs 17 (k0_off59_eq k) (k0_off59_inb k))
    (congrArg₂ Prod.mk (hs 18 (k0_off60_eq k) (k0_off60_inb k))
    (congrArg₂ Prod.mk (hs 19 (k0_off61_eq k) (k0_off61_inb k))
    (congrArg₂ Prod.mk (hs 20 (k0_off62_eq k) (k0_off62_inb k))
    (congrArg₂ Prod.mk (hs 21 (k0_off63_eq k) (k0_off63_inb k))
    (congrArg₂ Prod.mk (hs 22 (k0_off64_eq k) (k0_off64_inb k))
    (congrArg₂ Prod.mk (hs 23 (k0_off65_eq k) (k0_off65_inb k))
    (congrArg₂ Prod.mk (hs 24 (k0_off66_eq k) (k0_off66_inb k))
    (congrArg₂ Prod.mk (hs 25 (k0_off67_eq k) (k0_off67_inb k))
    (congrArg₂ Prod.mk (hs 26 (k0_off68_eq k) (k0_off68_inb k))
    (congrArg₂ Prod.mk (hs 27 (k0_off69_eq k) (k0_off69_inb k))
    (congrArg₂ Prod.mk (hs 28 (k0_off70_eq k) (k0_off70_inb k))
    (congrArg₂ Prod.mk (hs 29 (k0_off71_eq k) (k0_off71_inb k))
    (congrArg₂ Prod.mk (hs 30 (k0_off72_eq k) (k0_off72_inb k))
      (hs 31 (k0_off73_eq k) (k0_off73_inb k)))))))))))))))))))))))))))))))))

/-! The loops' rules, found by the executor from the buffers they read. -/

/-- The weights' sum as a loop with its partial sums as the invariant. -/
@[sl_loop, instance_reducible] def loop1 (d : Dev nD) (L : grid0.Coords) (W : Vec F S64x16 .f32) (init) :
    LoopInv (M := 𝕄) frame (wpE (defs₀ (F := F)) 𝒱₀ (thr d L) none) Set.univ k0_t1_loop.lb k0_t1_loop.ub k0_t1_loop.st k0_t1_ok init (k0_t1_body (F := F) L vV (Memref.isWhole_whole _) wV (Memref.isWhole_whole _) oV (Memref.isWhole_whole _) bW (Memref.isWhole_whole _)
      b0 (Memref.isWhole_whole _) b1 (Memref.isWhole_whole _) o0 (Memref.isWhole_whole _) o1 (Memref.isWhole_whole _)
      cc0_scratch5 cc0_scratch6 cc0_scratch7 cc0_scratch8 cc0_scoped0) where
  inv := inv1 d L W
  step := step1 d L W

/-- The count over the first buffer as a loop with its partial sums as the invariant. -/
@[sl_loop, instance_reducible] def loop3 (d : Dev nD) (L : grid0.Coords) (v2 : BitVec 32) (v5 : FVec F S16 .f32) (c0 c1 : BitVec 32) (t : Fin k0_t2_loop.trips)
    (W : Vec F S64x16 .f32) (X : Vec F S64x512 .i32) (init) :
    LoopInv (M := 𝕄) frame (wpE (defs₀ (F := F)) 𝒱₀ (thr d L) none) Set.univ k0_t3_loop.lb k0_t3_loop.ub k0_t3_loop.st k0_t3_ok init (k0_t3_body (F := F) L vV (Memref.isWhole_whole _) wV (Memref.isWhole_whole _) oV (Memref.isWhole_whole _) bW (Memref.isWhole_whole _)
      b0 (Memref.isWhole_whole _) b1 (Memref.isWhole_whole _) o0 (Memref.isWhole_whole _) o1 (Memref.isWhole_whole _)
      cc0_scratch5 cc0_scratch6 cc0_scratch7 cc0_scratch8 cc0_scoped0 v2 v5 c0 c1 t) where
  inv := inv3 d L W X
  step := step3 d L v2 v5 c0 c1 t W X

/-- The count over the second buffer as a loop with its partial sums as the invariant. -/
@[sl_loop, instance_reducible] def loop4 (d : Dev nD) (L : grid0.Coords) (v2 : BitVec 32) (v5 : FVec F S16 .f32) (t : Fin k0_t2_loop.trips)
    (u : BitVec 32) (z : FVec F S16 .f32) (c0 : BitVec 32) (W : Vec F S64x16 .f32) (X : Vec F S64x512 .i32) (init) :
    LoopInv (M := 𝕄) frame (wpE (defs₀ (F := F)) 𝒱₀ (thr d L) none) Set.univ k0_t4_loop.lb k0_t4_loop.ub k0_t4_loop.st k0_t4_ok init (k0_t4_body (F := F) L vV (Memref.isWhole_whole _) wV (Memref.isWhole_whole _) oV (Memref.isWhole_whole _) bW (Memref.isWhole_whole _)
      b0 (Memref.isWhole_whole _) b1 (Memref.isWhole_whole _) o0 (Memref.isWhole_whole _) o1 (Memref.isWhole_whole _)
      cc0_scratch5 cc0_scratch6 cc0_scratch7 cc0_scratch8 cc0_scoped0 v2 v5 t u z c0) where
  inv := inv4 d L W X
  step := step4 d L v2 v5 t u z c0 W X

end Cert.Proof.Vote

end
-- ==== Proof.Chunk.lean ====
/-
  One chunk of 512 columns: what its votes are, what its stores leave, and the result's columns by intervals.
-/
module

public import proofs.«01_k».proof.Proof.Loops
public import Idealize.ShloMosaic.Lib.Pointwise.Reshape
public import Idealize.ShloMosaic.Lib.Writes

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "oV" => (Memref.whole Cert.KernelIdeal.main_v2_scv : Memref Cert.KernelIdeal.sig Kind.scVector Space.hbm Cert.KernelIdeal.S622592 EltTy.i32)

/-! ## Values -/

/-- Where tile `L`'s columns begin. -/
def base (L : grid0.Coords) : ℕ := 38912 * (L 1).val + 19456 * (L 0).val

/-- A tile's 19456 columns lie among the SparseCore's 622592. -/
theorem base_le (L : grid0.Coords) : base L + 19456 ≤ 622592 := by
  have h0 : (L 0).val < 2 := (L 0).isLt
  have h1 : (L 1).val < 16 := (L 1).isLt
  unfold base; omega

/-- The 512 columns of the votes from column `b` on. -/
def chunk (Vt : Vec F S64x1048576 .i32) (b : ℕ) : Vec F S64x512 .i32 :=
  fun x => Vt (ix2 (x 0) (⟨(b + (x 1).val) % 1048576, Nat.mod_lt _ (by decide)⟩ : Fin 1048576))

/-- The word the SparseCore half leaves at column `y`, from the weights' rows `W` and the votes `Vt`. -/
def res (W : Vec F S64x16 .f32) (Vt : Vec F S64x1048576 .i32) : Vec F S622592 .i32 :=
  fun y => word (tot (fun r => W (ix2 r (⟨(y 0).val % 16, Nat.mod_lt _ (by decide)⟩ : Fin 16))) 64)
    (cnt (fun r => W (ix2 r (⟨(y 0).val % 16, Nat.mod_lt _ (by decide)⟩ : Fin 16)))
      (fun r => Vt (ix2 r (⟨(y 0).val, Nat.lt_trans (y 0).isLt (by decide)⟩ : Fin 1048576))) 64)

/-- The 512 results from column `b` on. -/
def resAt (W : Vec F S64x16 .f32) (Vt : Vec F S64x1048576 .i32) (b : ℕ) : Vec F S512 .i32 :=
  fun x => word (tot (fun r => W (ix2 r (⟨(x 0).val % 16, Nat.mod_lt _ (by decide)⟩ : Fin 16))) 64)
    (cnt (fun r => W (ix2 r (⟨(x 0).val % 16, Nat.mod_lt _ (by decide)⟩ : Fin 16)))
      (fun r => chunk Vt b (ix2 r (x 0))) 64)

/-- The lanes' words, from the lanes' totals `s` and counts `c`. -/
def wordL (s c : FVec F S16 .f32) : IVec S16 32 :=
  shapeCast S16 (andi (shrsi (subi (fptosi 32 (subf s c)) (fptosi 32 c)) (broadcast S16 31#32)) (broadcast S16 1#32)) shapeCasts_S16_S16

/-- The word of 16 lanes, one lane at a time. -/
theorem wordL_apply (s c : FVec F S16 .f32) (x : S16.Idx) : wordL s c x = word (s x) (c x) := by
  unfold wordL
  rw [shapeCast_id]
  rfl

/-- The accumulators' order of the stores, last first. -/
def order : List (Fin 32) :=
  [31, 30, 29, 28, 27, 26, 25, 24, 23, 22, 21, 20, 19, 18, 17, 16, 15, 14, 13, 12, 11, 10, 9, 8, 7, 6, 5, 4, 3, 2, 1, 0]

/-- The store of accumulator `sl`: its sixteen lanes at `16·sl`. -/
def piece (g : Fin 32 → IVec S16 32) (sl : Fin 32) : View.Piece (Elt F) S512 .i32 :=
  ⟨Rect.unit (s := S512) ![16 * sl.val] S16.size (by revert sl; decide), g sl⟩

/-- Thirty-two stores of sixteen lanes fill the chunk: read back, they are `R`, whatever was there before. -/
theorem pieces_read {κ : Kind} {sp : Space} (v : View sig κ sp S512 .i32) (f : v.ty.Contents (Elt F)) (g : Fin 32 → IVec S16 32) (R : Vec F S512 .i32)
    (hg : ∀ sl x, g sl x = R (ix1 (colOf sl (x 0)))) :
    v.read (Elt F) (v.writes (Elt F) f (order.map (piece (F := F) g))) = R := by
  funext y
  refine View.read_writes_apply_of_pieces v f R _ ?_ y ?_
  · intro p hp x
    obtain ⟨sl, _, rfl⟩ := List.mem_map.mp hp
    refine (hg sl x).trans (congrArg R ?_)
    funext a
    match a with
    | ⟨0, _⟩ => exact Fin.ext (show 16 * sl.val + (x 0).val = 16 * sl.val + 1 * (x 0).val by omega)
  · have hy : (y 0).val < 512 := (y 0).isLt
    refine ⟨piece g ⟨(y 0).val / 16, by omega⟩, List.mem_map.mpr ⟨_, ?_, rfl⟩, ?_⟩
    · generalize (⟨(y 0).val / 16, _⟩ : Fin 32) = sl
      revert sl; decide
    · unfold piece
      rw [Rect.mem_set_unit]
      intro a
      match a with
      | ⟨0, _⟩ => exact ⟨show 16 * ((y 0).val / 16) ≤ (y 0).val by omega, show (y 0).val < 16 * ((y 0).val / 16) + 16 by omega⟩

/-- The lanes' words of the counted chunk from column `b` on are the results from `b` on. -/
theorem word_lane (W : Vec F S64x16 .f32) (Vt : Vec F S64x1048576 .i32) (b : ℕ) (sl : Fin 32) (x : S16.Idx) :
    wordL (totL W 64) (lane W (chunk Vt b) 64 sl) x = resAt W Vt b (ix1 (colOf sl (x 0))) := by
  rw [wordL_apply]
  have hx : (⟨(colOf sl (x 0)).val % 16, Nat.mod_lt _ (by decide)⟩ : Fin 16) = x 0 :=
    Fin.ext (show (16 * sl.val + (x 0).val) % 16 = (x 0).val by have : (x 0).val < 16 := (x 0).isLt; omega)
  show word (tot (fun r => W (ix2 r (x 0))) 64) _ = word (tot (fun r => W (ix2 r (⟨(colOf sl (x 0)).val % 16, _⟩ : Fin 16))) 64)
    (cnt (fun r => W (ix2 r (⟨(colOf sl (x 0)).val % 16, _⟩ : Fin 16))) _ 64)
  rw [hx]
  rfl

/-- What the stores of a counted chunk leave in a result buffer, as the copy out reads it. -/
theorem out_read {κ : Kind} {sp : Space} (v : View sig κ sp S512 .i32) (f : v.ty.Contents (Elt F)) (W : Vec F S64x16 .f32)
    (Vt : Vec F S64x1048576 .i32) (X : Vec F S64x512 .i32) (s : FVec F S16 .f32) (b n : ℕ) (hX : X = chunk Vt b) (hs : s = totL W 64) (hn : n = 64) :
    (ReadAs.same (Val := Elt F)).apply (v.read (Elt F) (v.writes (Elt F) f (order.map (piece (F := F) fun sl => wordL s (lane W X n sl))))) = resAt W Vt b := by
  subst hX hs hn
  exact pieces_read v f _ _ (word_lane W Vt b)

/-! ## The result's columns by intervals -/

/-- The columns from `lo` to below `hi`. -/
def iv (lo hi : ℕ) : Finset S622592.Idx := Finset.univ.filter fun y => lo ≤ (y 0).val ∧ (y 0).val < hi

/-- A column lies in the range exactly if it is at least the lower end and below the upper. -/
theorem mem_iv {lo hi : ℕ} {y : S622592.Idx} : y ∈ iv lo hi ↔ lo ≤ (y 0).val ∧ (y 0).val < hi := by simp [iv]

/-- A range without extent holds no column. -/
theorem iv_empty (lo : ℕ) : iv lo lo = ∅ := by
  ext y; rw [mem_iv]; simp

/-- Two neighbouring ranges make one. -/
theorem iv_union {lo mid hi : ℕ} (h1 : lo ≤ mid) (h2 : mid ≤ hi) : iv lo hi = iv lo mid ∪ iv mid hi := by
  ext y; rw [Finset.mem_union, mem_iv, mem_iv, mem_iv]; omega

/-- Neighbouring ranges share no column. -/
theorem iv_disjoint (lo mid hi : ℕ) : Disjoint (iv lo mid) (iv mid hi) := by
  rw [Finset.disjoint_left]; intro y; rw [mem_iv, mem_iv]; omega

/-- A chunk's slice of the result covers exactly its interval of columns. -/
theorem set_slice_iv {off : Fin 1 → ℕ} (b : ℕ) (e : off = ![b]) (inb : ∀ a, off a + S512.size a ≤ S622592.size a) :
    ((oV).slice (Rect.unit (s := S622592) off S512.size inb) (fun _ => rfl)).view.set = iv b (b + 512) := by
  subst e
  refine (View.set_slice_whole _ _).trans ?_
  ext y
  rw [mem_iv]
  refine Rect.mem_set_unit.trans ⟨fun h => h 0, fun h a => ?_⟩
  match a with
  | ⟨0, _⟩ => exact h

/-- Columns of the result of the tile's array from `lo` to below `hi` at contents `f`. -/
abbrev oIv (d : Dev nD) (L : grid0.Coords) (lo hi : ℕ) (f : Vec F S622592 .i32) : sProp 𝕄 := (oV).view.loc (thr d L) ↦[iv lo hi]{fullShare} f

/-- A range of the result is held as its two parts. -/
theorem oIv_split (d : Dev nD) (L : grid0.Coords) {lo mid hi : ℕ} (h1 : lo ≤ mid) (h2 : mid ≤ hi) (f : Vec F S622592 .i32) :
    (oIv d L lo hi f : sProp 𝕄) ⊢ iprop(oIv d L lo mid f ∗ oIv d L mid hi f) := by
  unfold oIv
  rw [iv_union h1 h2]
  exact (pointsTo_union (iv_disjoint lo mid hi)).1

/-- Two neighbouring parts of the result are held as one range. -/
theorem oIv_join (d : Dev nD) (L : grid0.Coords) {lo mid hi : ℕ} (h1 : lo ≤ mid) (h2 : mid ≤ hi) (f : Vec F S622592 .i32) :
    iprop(oIv d L lo mid f ∗ oIv d L mid hi f) ⊢ (oIv d L lo hi f : sProp 𝕄) := by
  unfold oIv
  rw [iv_union h1 h2]
  exact (pointsTo_union (iv_disjoint lo mid hi)).2

end Cert.Proof.Vote

end
-- ==== Proof.Trip.lean ====
/-
  The chunk loop: what holds before each trip, and the facts that bring a trip's copies to that form.
-/
module

public import proofs.«01_k».proof.Proof.Chunk

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "EC" => (countersEmb : UEmb Counters (MT nD τ sig (HIx 1) (Elt F) ℕ UU ℕ))
local notation "vV" => (Memref.whole Cert.KernelIdeal.main_arg0_scv : Memref Cert.KernelIdeal.sig Kind.scVector Space.hbm Cert.KernelIdeal.S64x1048576 EltTy.i32)
local notation "oV" => (Memref.whole Cert.KernelIdeal.main_v2_scv : Memref Cert.KernelIdeal.sig Kind.scVector Space.hbm Cert.KernelIdeal.S622592 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-- The votes, at share `q`, seen by tile `L`. -/
abbrev vPts (d : Dev nD) (L : grid0.Coords) (q : PosShare TreeShare) (Vt : Vec F S64x1048576 .i32) : sProp 𝕄 := (vV).view.loc (thr d L) ↦{q} Vt

/-- The trip's second chunk is always fetched. -/
theorem cond1_true (t : Fin k0_t2_loop.trips) : k0_cond1 t = 1#1 := by revert t; decide
/-- The first result buffer is waited for in every trip but the first. -/
theorem cond2_iff (t : Fin k0_t2_loop.trips) : k0_cond2 t = 1#1 ↔ t.val ≠ 0 := by revert t; decide
/-- The next trip's first chunk is fetched in every trip but the last. -/
theorem cond3_iff (t : Fin k0_t2_loop.trips) : k0_cond3 t = 1#1 ↔ t.val + 1 < 19 := by revert t; decide
/-- The second result buffer is waited for in every trip but the first. -/
theorem cond4_iff (t : Fin k0_t2_loop.trips) : k0_cond4 t = 1#1 ↔ t.val ≠ 0 := by revert t; decide

/-! ## The pieces of the chunk loop's invariant -/

/-- The first vote buffer in flight: it will hold the chunk from column `b` on. -/
def fly0 (d : Dev nD) (L : grid0.Coords) (Vt : Vec F S64x1048576 .i32) (q : PosShare TreeShare) (b : ℕ) : sProp 𝕄 :=
  iprop(∃ S, Transfers.Flight EC (thr d L) (.dma cc0_scratch5.sem) (default : HIx 1) 1048576
      iprop(x0Pts d L (chunk Vt b) ∗ ((vV).view.loc (thr d L) ↦[S]{q} Vt))
    ∗ ((vV).view.loc (thr d L) ↦[Finset.univ \ S]{q} Vt))
/-- The first votes buffer, held at some contents, with its counter at zero. -/
def free0 (d : Dev nD) (L : grid0.Coords) (Vt : Vec F S64x1048576 .i32) (q : PosShare TreeShare) : sProp 𝕄 :=
  iprop(semVal (thr d L, .dma cc0_scratch5.sem) 0 ∗ (∃ X, x0Pts d L X) ∗ vPts d L q Vt)
/-- The second votes buffer, held at some contents, with its counter at zero. -/
def free1 (d : Dev nD) (L : grid0.Coords) (Vt : Vec F S64x1048576 .i32) (q : PosShare TreeShare) : sProp 𝕄 :=
  iprop(semVal (thr d L, .dma cc0_scratch6.sem) 0 ∗ (∃ X, x1Pts d L X) ∗ vPts d L q Vt)

/-- The result buffers in flight, delivering the results of 512 columns from `b` on. -/
def out0 (d : Dev nD) (L : grid0.Coords) (R : Vec F S622592 .i32) (b : ℕ) : sProp 𝕄 :=
  iprop(∃ Y : Vec F S512 .i32, Transfers.Flight EC (thr d L) (.dma cc0_scratch7.sem) (default : HIx 1) 16384
      iprop(oIv d L b (b + 512) R ∗ ((o0).view.loc (thr d L) ↦[(o0).view.set]{fullShare} Y))
    ∗ ((o0).view.loc (thr d L) ↦[Finset.univ \ (o0).view.set]{fullShare} Y))
/-- The second result buffer, under way to its place. -/
def out1 (d : Dev nD) (L : grid0.Coords) (R : Vec F S622592 .i32) (b : ℕ) : sProp 𝕄 :=
  iprop(∃ Y : Vec F S512 .i32, Transfers.Flight EC (thr d L) (.dma cc0_scratch8.sem) (default : HIx 1) 16384
      iprop(oIv d L b (b + 512) R ∗ ((o1).view.loc (thr d L) ↦[(o1).view.set]{fullShare} Y))
    ∗ ((o1).view.loc (thr d L) ↦[Finset.univ \ (o1).view.set]{fullShare} Y))
/-- The first result buffer, held at some contents, with its counter at zero. -/
def idle0 (d : Dev nD) (L : grid0.Coords) : sProp 𝕄 :=
  iprop(semVal (thr d L, .dma cc0_scratch7.sem) 0 ∗ (∃ Y : Vec F S512 .i32, (o0).view.loc (thr d L) ↦{fullShare} Y))
/-- The second result buffer, held at some contents, with its counter at zero. -/
def idle1 (d : Dev nD) (L : grid0.Coords) : sProp 𝕄 :=
  iprop(semVal (thr d L, .dma cc0_scratch8.sem) 0 ∗ (∃ Y : Vec F S512 .i32, (o1).view.loc (thr d L) ↦{fullShare} Y))

/-- What the tile owes, with every wait it has recorded one of the entry's or one of its own local waits. -/
def owing (d : Dev nD) (L : grid0.Coords) (O : CellTallies nD τ sig (HIx 1)) (Ws : Waits sig (HIx 1)) : sProp 𝕄 :=
  iprop(∃ W', ⌜∀ p ∈ W', p ∈ Ws ∨ p.2 = (default : HIx 1)⌝ ∗ owes (thr d L) O W')

/-- Before trip `k`: the first buffer's chunk `2k` is arriving (unless past the end), the second buffer is free, the two
    results of the trip before are leaving, earlier columns hold their results and later ones are untouched. -/
def inv2 (d : Dev nD) (L : grid0.Coords) (W : Vec F S64x16 .f32) (Vt : Vec F S64x1048576 .i32) (q0 q1 : PosShare TreeShare)
    (O : CellTallies nD τ sig (HIx 1)) (Ws : Waits sig (HIx 1)) (k : ℕ) (_ : PUnit) : sProp 𝕄 :=
  iprop(Transfers.MayWaits (thr d L) (default : HIx 1) O ∗ wPts d L W
    ∗ (if k < 19 then fly0 d L Vt q0 (base L + 1024 * k) else free0 d L Vt q0)
    ∗ free1 d L Vt q1
    ∗ (if k = 0 then idle0 d L else out0 d L (res W Vt) (base L + 1024 * (k - 1)))
    ∗ (if k = 0 then idle1 d L else out1 d L (res W Vt) (base L + 1024 * (k - 1) + 512))
    ∗ oIv d L (base L) (base L + 1024 * (k - 1)) (res W Vt)
    ∗ (∃ f, oIv d L (base L + 1024 * k) (base L + 19456) f)
    ∗ owing d L O Ws)

/-! ## Putting the copies the run leaves in flight into the invariant's words -/

/-- A chunk's slice of the votes reads as the chunk. -/
theorem read_chunk (Vt : Vec F S64x1048576 .i32) {off : Fin 2 → ℕ} (b : ℕ) (e : off = ![0, b]) (inb : ∀ a, off a + S64x512.size a ≤ S64x1048576.size a) :
    (ReadAs.same (Val := Elt F)).apply (((vV).slice (Rect.unit (s := S64x1048576) off S64x512.size inb) (fun _ => rfl)).view.read (Elt F) Vt) = chunk Vt b := by
  subst e
  have hb : b + 512 ≤ 1048576 := inb 1
  funext x
  refine congrArg Vt ?_
  have hx : (x 1).val < 512 := (x 1).isLt
  funext a
  match a with
  | ⟨0, _⟩ => exact Fin.ext (show 0 + 1 * (x 0).val = (x 0).val by omega)
  | ⟨1, _⟩ => exact Fin.ext (show b + 1 * (x 1).val = (b + (x 1).val) % 1048576 by omega)

/-- The chunk of the result at a column. -/
theorem resAt_ix1 (W : Vec F S64x16 .f32) (Vt : Vec F S64x1048576 .i32) (b : ℕ) (j : Fin 512) :
    resAt W Vt b (ix1 j) = word (tot (fun r => W (ix2 r (⟨j.val % 16, Nat.mod_lt _ (by decide)⟩ : Fin 16))) 64)
      (cnt (fun r => W (ix2 r (⟨j.val % 16, Nat.mod_lt _ (by decide)⟩ : Fin 16)))
        (fun r => Vt (ix2 r (⟨(b + j.val) % 1048576, Nat.mod_lt _ (by decide)⟩ : Fin 1048576))) 64) := rfl

/-- A chunk's results written over its columns are the result there. -/
theorem out_res (W : Vec F S64x16 .f32) (Vt : Vec F S64x1048576 .i32) {off : Fin 1 → ℕ} (b : ℕ) (e : off = ![b]) (h16 : 16 ∣ b) (inb : ∀ a, off a + S512.size a ≤ S622592.size a)
    (f : Vec F S622592 .i32) (y : S622592.Idx) (hy : y ∈ iv b (b + 512)) :
    (((oV).slice (Rect.unit (s := S622592) off S512.size inb) (fun _ => rfl)).view.writes (Elt F) f
      [⟨Rect.whole (Rect.unit (s := S622592) off S512.size inb).shape, resAt W Vt b⟩]) y = res W Vt y := by
  subst e
  have hb : b + 512 ≤ 622592 := inb 0
  rw [mem_iv] at hy
  have hv := View.read_writes_cons_emb ((oV).slice (Rect.unit (s := S622592) ![b] S512.size inb) (fun _ => rfl)).view f (Rect.whole S512) (resAt W Vt b) []
    (ix1 (⟨(y 0).val - b, by omega⟩ : Fin 512))
  have hyy : y = ix1 (⟨b + ((y 0).val - b), by omega⟩ : Fin 622592) := by
    funext a
    match a with
    | ⟨0, _⟩ => exact Fin.ext (show (y 0).val = b + ((y 0).val - b) by omega)
  have hlhs : ((oV).slice (Rect.unit (s := S622592) ![b] S512.size inb) (fun _ => rfl)).view.emb ((Rect.whole S512).emb (ix1 (⟨(y 0).val - b, by omega⟩ : Fin 512))) = y := by
    funext a
    match a with
    | ⟨0, _⟩ => exact Fin.ext (show b + 1 * (0 + 1 * ((y 0).val - b)) = (y 0).val by omega)
  rw [View.read_apply, hlhs] at hv
  refine hv.trans ?_
  obtain ⟨c, rfl⟩ := h16
  have h1 : (⟨((y 0).val - 16 * c) % 16, Nat.mod_lt _ (by decide)⟩ : Fin 16) = ⟨(y 0).val % 16, Nat.mod_lt _ (by decide)⟩ := Fin.ext (by show ((y 0).val - 16 * c) % 16 = (y 0).val % 16; omega)
  have h2 : (⟨(16 * c + ((y 0).val - 16 * c)) % 1048576, Nat.mod_lt _ (by decide)⟩ : Fin 1048576) = ⟨(y 0).val, Nat.lt_trans (y 0).isLt (by decide)⟩ :=
    Fin.ext (by show (16 * c + ((y 0).val - 16 * c)) % 1048576 = (y 0).val; omega)
  rw [resAt_ix1]
  dsimp only
  rw [h1, h2]
  rfl

end Cert.Proof.Vote

end
-- ==== Proof.Step.lean ====
/-
  One trip of the chunk loop.
-/
module

public import proofs.«01_k».proof.Proof.Trip

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "EC" => (countersEmb : UEmb Counters (MT nD τ sig (HIx 1) (Elt F) ℕ UU ℕ))
local notation "vV" => (Memref.whole Cert.KernelIdeal.main_arg0_scv : Memref Cert.KernelIdeal.sig Kind.scVector Space.hbm Cert.KernelIdeal.S64x1048576 EltTy.i32)
local notation "oV" => (Memref.whole Cert.KernelIdeal.main_v2_scv : Memref Cert.KernelIdeal.sig Kind.scVector Space.hbm Cert.KernelIdeal.S622592 EltTy.i32)
local notation "b0" => (Memref.whole Cert.KernelIdeal.cc0_scratch1 : Memref Cert.KernelIdeal.sig Kind.scVector Space.vmem Cert.KernelIdeal.S64x512 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-- A chunk's results landed are the result's columns there. -/
theorem land_res (d : Dev nD) (L : grid0.Coords) (W : Vec F S64x16 .f32) (Vt : Vec F S64x1048576 .i32) (f : Vec F S622592 .i32)
    {off : Fin 1 → ℕ} (b : ℕ) (e : off = ![b]) (h16 : 16 ∣ b) (inb : ∀ a, off a + S512.size a ≤ S622592.size a) (R : sProp 𝕄) :
    iprop((((oV).slice (Rect.unit (s := S622592) off S512.size inb) (fun _ => rfl)).view.loc (thr d L)
            ↦[((oV).slice (Rect.unit (s := S622592) off S512.size inb) (fun _ => rfl)).view.set]{fullShare}
              (((oV).slice (Rect.unit (s := S622592) off S512.size inb) (fun _ => rfl)).view.writes (Elt F) f
                [⟨Rect.whole (Rect.unit (s := S622592) off S512.size inb).shape, resAt W Vt b⟩])) ∗ R)
      ⊢ iprop(oIv d L b (b + 512) (res W Vt) ∗ R) := by
  refine sep_mono ?_ .rfl
  rw [set_slice_iv b e inb]
  exact Entails.of_eq (pointsTo_congr fun y hy => out_res W Vt b e h16 inb f y hy)

/-- A chunk's columns, as the slice the copy out writes. -/
theorem oIv_slice (d : Dev nD) (L : grid0.Coords) (f : Vec F S622592 .i32) {off : Fin 1 → ℕ} (b : ℕ) (e : off = ![b]) (inb : ∀ a, off a + S512.size a ≤ S622592.size a) :
    (oIv d L b (b + 512) f : sProp 𝕄) ⊢ ((oV).slice (Rect.unit (s := S622592) off S512.size inb) (fun _ => rfl)).view.loc (thr d L)
      ↦[((oV).slice (Rect.unit (s := S622592) off S512.size inb) (fun _ => rfl)).view.set]{fullShare} f := by
  rw [set_slice_iv b e inb]

/-- A choice whose condition holds gives its first case. -/
theorem ite_holds {p : Prop} [Decidable p] (h : p) {A B : sProp 𝕄} : (if p then A else B) ⊢ A := by rw [if_pos h]
/-- A choice whose condition fails gives its second. -/
theorem ite_fails {p : Prop} [Decidable p] (h : ¬ p) {A B : sProp 𝕄} : (if p then A else B) ⊢ B := by rw [if_neg h]
/-- The first case gives the choice when the condition holds. -/
theorem ite_intro {p : Prop} [Decidable p] (h : p) {A B : sProp 𝕄} : A ⊢ (if p then A else B) := by rw [if_pos h]
/-- The second case gives it when the condition fails. -/
theorem ite_intro' {p : Prop} [Decidable p] (h : ¬ p) {A B : sProp 𝕄} : B ⊢ (if p then A else B) := by rw [if_neg h]
/-- The upper end of a range may be written in another way. -/
theorem oIv_cast (d : Dev nD) (L : grid0.Coords) {lo hi hi' : ℕ} (h : hi = hi') (f : Vec F S622592 .i32) : (oIv d L lo hi f : sProp 𝕄) ⊢ oIv d L lo hi' f := by rw [h]
/-- Three neighbouring stretches of columns are one. -/
theorem oIv_three (d : Dev nD) (L : grid0.Coords) (f : Vec F S622592 .i32) (lo m n hi : ℕ) (h1 : lo ≤ m) (h2 : m ≤ n) (h3 : n ≤ hi) :
    iprop(oIv d L lo m f ∗ oIv d L m n f ∗ oIv d L n hi f) ⊢ (oIv d L lo hi f : sProp 𝕄) :=
  (sep_mono .rfl (oIv_join d L h2 h3 f)).trans (oIv_join d L h1 (h2.trans h3) f)
/-- The columns done, once the two results of the trip before have landed. -/
theorem oIv_done (d : Dev nD) (L : grid0.Coords) (k : ℕ) (hk : k ≠ 0) (f : Vec F S622592 .i32) :
    iprop(oIv d L (base L) (base L + 1024 * (k - 1)) f ∗ oIv d L (base L + 1024 * (k - 1)) (base L + 1024 * (k - 1) + 512) f
      ∗ oIv d L (base L + 1024 * (k - 1) + 512) (base L + 1024 * (k - 1) + 512 + 512) f) ⊢ (oIv d L (base L) (base L + 1024 * k) f : sProp 𝕄) :=
  (oIv_three d L f _ _ _ _ (by omega) (by omega) (by omega)).trans (oIv_cast d L (by omega) f)

/-- A vote copy in flight, in the invariant's words. -/
theorem fly0_intro (d : Dev nD) (L : grid0.Coords) (Vt : Vec F S64x1048576 .i32) (q : PosShare TreeShare) (X : Vec F S64x512 .i32)
    {off : Fin 2 → ℕ} (b : ℕ) (e : off = ![0, b]) (inb : ∀ a, off a + S64x512.size a ≤ S64x1048576.size a) :
    iprop(Transfers.Flight EC (thr d L) (.dma cc0_scratch5.sem) (default : HIx 1) 1048576
        iprop(((b0).view.loc (thr d L) ↦{fullShare} View.write (Elt F) (b0).view X
            ((ReadAs.same (Val := Elt F)).apply (((vV).slice (Rect.unit (s := S64x1048576) off S64x512.size inb) (fun _ => rfl)).view.read (Elt F) Vt)) Finset.univ)
          ∗ ((vV).view.loc (thr d L) ↦[((vV).slice (Rect.unit (s := S64x1048576) off S64x512.size inb) (fun _ => rfl)).view.set]{q} Vt))
      ∗ ((vV).view.loc (thr d L) ↦[Finset.univ \ ((vV).slice (Rect.unit (s := S64x1048576) off S64x512.size inb) (fun _ => rfl)).view.set]{q} Vt))
      ⊢ (fly0 d L Vt q b : sProp 𝕄) := by
  unfold fly0
  rw [read_chunk Vt b e inb, View.write_whole_univ]
  iintro ⟨HF, HR⟩
  iexists _
  isplitl [HF]
  · iexact HF
  · iexact HR

/-- A range without extent is held for nothing. -/
theorem oIv_nil (d : Dev nD) (L : grid0.Coords) (b : ℕ) (f : Vec F S622592 .i32) : ⊢ (oIv d L b b f : sProp 𝕄) := by
  unfold oIv
  rw [iv_empty, pointsTo_empty]
  exact .rfl

/-- One more local wait recorded. -/
theorem waits_insert {Ws W' : Waits sig (HIx 1)} (sm : SemLoc sig) (h : ∀ p ∈ W', p ∈ Ws ∨ p.2 = (default : HIx 1)) :
    ∀ p ∈ insert (sm, (default : HIx 1)) W', p ∈ Ws ∨ p.2 = (default : HIx 1) := by
  intro p hp
  rcases Finset.mem_insert.mp hp with rfl | hp
  · exact .inr rfl
  · exact h p hp

/-- A copy of the first result buffer under way is the step's first copy in flight. -/
theorem out0_intro (d : Dev nD) (L : grid0.Coords) (W : Vec F S64x16 .f32) (Vt : Vec F S64x1048576 .i32) (Y : Vec F S512 .i32) (f : Vec F S622592 .i32)
    {off : Fin 1 → ℕ} (b : ℕ) (e : off = ![b]) (h16 : 16 ∣ b) (inb : ∀ a, off a + S512.size a ≤ S622592.size a) (w : Vec F S512 .i32) (hw : w = resAt W Vt b) :
    iprop(Transfers.Flight EC (thr d L) (.dma cc0_scratch7.sem) (default : HIx 1) 16384
        iprop((((oV).slice (Rect.unit (s := S622592) off S512.size inb) (fun _ => rfl)).view.loc (thr d L)
            ↦[((oV).slice (Rect.unit (s := S622592) off S512.size inb) (fun _ => rfl)).view.set]{fullShare}
              (((oV).slice (Rect.unit (s := S622592) off S512.size inb) (fun _ => rfl)).view.writes (Elt F) f
                [⟨Rect.whole (Rect.unit (s := S622592) off S512.size inb).shape, w⟩]))
          ∗ ((o0).view.loc (thr d L) ↦[(o0).view.set]{fullShare} Y))
      ∗ ((o0).view.loc (thr d L) ↦[Finset.univ \ (o0).view.set]{fullShare} Y))
      ⊢ (out0 d L (res W Vt) b : sProp 𝕄) := by
  subst hw
  unfold out0
  iintro ⟨HF, HR⟩
  iexists Y
  isplitl [HF]
  · iapply (Transfers.Flight_mono EC (thr d L) (land_res d L W Vt f b e h16 inb _)) $$ HF
  · iexact HR

/-- A copy of the second result buffer under way is the step's second copy in flight. -/
theorem out1_intro (d : Dev nD) (L : grid0.Coords) (W : Vec F S64x16 .f32) (Vt : Vec F S64x1048576 .i32) (Y : Vec F S512 .i32) (f : Vec F S622592 .i32)
    {off : Fin 1 → ℕ} (b : ℕ) (e : off = ![b]) (h16 : 16 ∣ b) (inb : ∀ a, off a + S512.size a ≤ S622592.size a) (w : Vec F S512 .i32) (hw : w = resAt W Vt b) :
    iprop(Transfers.Flight EC (thr d L) (.dma cc0_scratch8.sem) (default : HIx 1) 16384
        iprop((((oV).slice (Rect.unit (s := S622592) off S512.size inb) (fun _ => rfl)).view.loc (thr d L)
            ↦[((oV).slice (Rect.unit (s := S622592) off S512.size inb) (fun _ => rfl)).view.set]{fullShare}
              (((oV).slice (Rect.unit (s := S622592) off S512.size inb) (fun _ => rfl)).view.writes (Elt F) f
                [⟨Rect.whole (Rect.unit (s := S622592) off S512.size inb).shape, w⟩]))
          ∗ ((o1).view.loc (thr d L) ↦[(o1).view.set]{fullShare} Y))
      ∗ ((o1).view.loc (thr d L) ↦[Finset.univ \ (o1).view.set]{fullShare} Y))
      ⊢ (out1 d L (res W Vt) b : sProp 𝕄) := by
  subst hw
  unfold out1
  iintro ⟨HF, HR⟩
  iexists Y
  isplitl [HF]
  · iapply (Transfers.Flight_mono EC (thr d L) (land_res d L W Vt f b e h16 inb _)) $$ HF
  · iexact HR

/-- Where a result chunk goes. -/
theorem off39_at (L : grid0.Coords) (t : Fin k0_t2_loop.trips) (r : Fin 2) :
    k0_off39 L t (BitVec.ofNat 32 r.val) = ![base L + 1024 * t.val + 512 * r.val] := k0_off39_eq L t r
/-- Where the next trip's first chunk of votes lies. -/
theorem off40_at (L : grid0.Coords) (t : Fin k0_t2_loop.trips) : k0_off40 L t = ![0, base L + 1024 * (t.val + 1)] :=
  (k0_off40_eq L t).trans (by show ![0, base L + 1024 * t.val + 1024] = _; rw [Nat.mul_add, Nat.add_assoc])
/-- Where the trip's second chunk of votes lies. -/
theorem off3_at (L : grid0.Coords) (t : Fin k0_t2_loop.trips) : k0_off3 L t = ![0, base L + 1024 * t.val + 512] := k0_off3_eq L t

/-- A tile begins at a multiple of 16 columns. -/
theorem base_dvd (L : grid0.Coords) : 16 ∣ base L := by unfold base; omega

/-- The pieces a trip leaves are what holds before the next one. -/
theorem inv2_intro (d : Dev nD) (L : grid0.Coords) (W : Vec F S64x16 .f32) (Vt : Vec F S64x1048576 .i32) (q0 q1 : PosShare TreeShare)
    (O : CellTallies nD τ sig (HIx 1)) (Ws : Waits sig (HIx 1)) (k : ℕ) (X : Vec F S64x512 .i32) (f : Vec F S622592 .i32) :
    iprop(Transfers.MayWaits (thr d L) (default : HIx 1) O ∗ wPts d L W
      ∗ (if k + 1 < 19 then fly0 d L Vt q0 (base L + 1024 * (k + 1)) else free0 d L Vt q0)
      ∗ (semVal (thr d L, .dma cc0_scratch6.sem) 0 ∗ x1Pts d L X ∗ vPts d L q1 Vt)
      ∗ out0 d L (res W Vt) (base L + 1024 * k)
      ∗ out1 d L (res W Vt) (base L + 1024 * k + 512)
      ∗ oIv d L (base L) (base L + 1024 * k) (res W Vt)
      ∗ oIv d L (base L + 1024 * k + 512 + 512) (base L + 19456) f
      ∗ owing d L O Ws)
      ⊢ inv2 d L W Vt q0 q1 O Ws (k + 1) ⟨⟩ := by
  unfold inv2 free1
  rw [if_neg (Nat.succ_ne_zero k), if_neg (Nat.succ_ne_zero k), Nat.add_sub_cancel, show base L + 1024 * (k + 1) = base L + 1024 * k + 512 + 512 by omega]
  iintro ⟨Hmw, HW, Hin, ⟨HS6, HX1, HV1⟩, HA, HB, Hdone, Htodo, HO⟩
  isplitl [Hmw]; · iexact Hmw
  isplitl [HW]; · iexact HW
  isplitl [Hin]; · iexact Hin
  isplitl [HS6 HX1 HV1]
  · isplitl [HS6]; · iexact HS6
    isplitl [HX1]; · iexists _; iexact HX1
    iexact HV1
  isplitl [HA]; · iexact HA
  isplitl [HB]; · iexact HB
  isplitl [Hdone]; · iexact Hdone
  isplitl [Htodo]; · iexists f; iexact Htodo
  iexact HO

/-- The three ways a trip's guards fall: the first trip, one in the middle, the last. -/
theorem guards (t : Fin k0_t2_loop.trips) :
    (t.val = 0 ∧ ¬ k0_cond2 t = 1#1 ∧ k0_cond3 t = 1#1 ∧ ¬ k0_cond4 t = 1#1)
      ∨ (¬ t.val = 0 ∧ t.val + 1 < 19 ∧ k0_cond2 t = 1#1 ∧ k0_cond3 t = 1#1 ∧ k0_cond4 t = 1#1)
      ∨ (¬ t.val = 0 ∧ ¬ t.val + 1 < 19 ∧ k0_cond2 t = 1#1 ∧ ¬ k0_cond3 t = 1#1 ∧ k0_cond4 t = 1#1) := by
  rw [cond2_iff, cond3_iff, cond4_iff]; omega

set_option maxHeartbeats 2000000 in
/-- ONE TRIP of the chunk loop, whichever of its guarded copies and waits it takes. -/
theorem step2 (d : Dev nD) (L : grid0.Coords) (W : Vec F S64x16 .f32) (Vt : Vec F S64x1048576 .i32) (q0 q1 : PosShare TreeShare)
    (O : CellTallies nD τ sig (HIx 1)) (Ws : Waits sig (HIx 1)) (v2 : BitVec 32) (v5 : FVec F S16 .f32) (h5 : v5 = totL W 64)
    (t : Fin k0_t2_loop.trips) (u : PUnit) :
    inv2 d L W Vt q0 q1 O Ws t.val u ⊢ wp frame (wpE (defs₀ (F := F)) 𝒱₀ (thr d L) none) Set.univ (bodyT2 L v2 v5 t u) (inv2 d L W Vt q0 q1 O Ws (t.val + 1)) := by
  have ht : t.val < 19 := trips2 ▸ t.isLt
  have h1 := cond1_true t
  generalize hQ : inv2 d L W Vt q0 q1 O Ws (t.val + 1) = Q
  unfold inv2
  rw [if_pos ht]
  unfold fly0 free1 owing
  iintro ⟨#Hmw, HW, ⟨%S, HF0, HR0⟩, ⟨HS6, ⟨%X1, HX1⟩, HV1⟩, HA, HB, Hdone, ⟨%f, Htodo⟩, ⟨%W', %hW', HO⟩⟩
  ihave Htodo' := (oIv_split d L (mid := base L + 1024 * t.val + 512) (by omega) (by omega) f) $$ Htodo
  icases Htodo' with ⟨HO0, Htodo⟩
  ihave Htodo' := (oIv_split d L (mid := base L + 1024 * t.val + 512 + 512) (by omega) (by omega) f) $$ Htodo
  icases Htodo' with ⟨HO1, Htodo⟩
  ihave HO0' := (oIv_slice d L f _ (off39_at L t 0) (k0_off39_inb L t 0)) $$ HO0
  ihave HO1' := (oIv_slice d L f _ (off39_at L t 1) (k0_off39_inb L t 1)) $$ HO1
  rcases guards t with ⟨h0, h2, h3, h4⟩ | ⟨h0, h, h2, h3, h4⟩ | ⟨h0, h, h2, h3, h4⟩
  focus
    ihave HA' := (ite_holds h0) $$ HA
    ihave HB' := (ite_holds h0) $$ HB
    unfold idle0 idle1
    icases HA' with ⟨HF7, ⟨%Y0, HR7⟩⟩
    icases HB' with ⟨HF8, ⟨%Y1, HR8⟩⟩
    unfold bodyT2 k0_t2_body
    sl_exec
    sl_step
    ihave Hin := (fly0_intro d L Vt q0 _ _ (off40_at L t) (k0_off40_inb L t h3)) $$ [HF0 HR0]
    · isplitl [HF0]; · iexact HF0
      iexact HR0
    ihave Hin' := (ite_intro (B := free0 d L Vt q0) (show t.val + 1 < 19 by omega)) $$ Hin
    ihave Hdn := (oIv_cast d L (show base L + 1024 * (t.val - 1) = base L + 1024 * t.val by omega) (res W Vt)) $$ Hdone
  rotate_left
  focus
    ihave HA' := (ite_fails h0) $$ HA
    ihave HB' := (ite_fails h0) $$ HB
    unfold out0 out1
    icases HA' with ⟨%Y0, HF7, HR7⟩
    icases HB' with ⟨%Y1, HF8, HR8⟩
    unfold bodyT2 k0_t2_body
    sl_exec
    sl_step
    ihave Hin := (fly0_intro d L Vt q0 _ _ (off40_at L t) (k0_off40_inb L t h3)) $$ [HF0 HR0]
    · isplitl [HF0]; · iexact HF0
      iexact HR0
    ihave Hin' := (ite_intro (B := free0 d L Vt q0) h) $$ Hin
    ihave Hdn := (oIv_done d L t.val h0 (res W Vt)) $$ [Hdone HF7_dst HF8_dst]
    · isplitl [Hdone]; · iexact Hdone
      isplitl [HF7_dst]; · iexact HF7_dst
      iexact HF8_dst
  rotate_left
  focus
    ihave HA' := (ite_fails h0) $$ HA
    ihave HB' := (ite_fails h0) $$ HB
    unfold out0 out1
    icases HA' with ⟨%Y0, HF7, HR7⟩
    icases HB' with ⟨%Y1, HF8, HR8⟩
    unfold bodyT2 k0_t2_body
    sl_exec
    sl_step
    ihave Hin' := (ite_intro' (A := fly0 d L Vt q0 (base L + 1024 * (t.val + 1))) (B := free0 d L Vt q0) h) $$ [HF0 HF0_dst HR0]
    · unfold free0
      isplitl [HF0]; · iexact HF0
      isplitl [HF0_dst]
      · iexists _; iexact HF0_dst
      · iexact HR0
    ihave Hdn := (oIv_done d L t.val h0 (res W Vt)) $$ [Hdone HF7_dst HF8_dst]
    · isplitl [Hdone]; · iexact Hdone
      isplitl [HF7_dst]; · iexact HF7_dst
      iexact HF8_dst
  all_goals
    subst hQ
    ihave HA := (out0_intro d L W Vt _ f _ (off39_at L t 0) (Dvd.dvd.add (Dvd.dvd.add (base_dvd L) (Dvd.dvd.mul_right (by decide) _)) (by decide)) (k0_off39_inb L t 0) _
        (out_read _ _ W Vt _ v5 _ _ rfl h5 trips3)) $$ [HF7 HR7]
    · isplitl [HF7]; · iexact HF7
      iexact HR7
    ihave HB := (out1_intro d L W Vt _ f _ (off39_at L t 1) (Dvd.dvd.add (Dvd.dvd.add (base_dvd L) (Dvd.dvd.mul_right (by decide) _)) (by decide)) (k0_off39_inb L t 1) _
        (out_read _ _ W Vt _ v5 _ _ ((View.write_whole_univ (Val := Elt F) cc0_scratch2 _ _).trans (read_chunk Vt _ (off3_at L t) (k0_off3_inb L t h1))) h5 trips4)) $$ [HF8 HR8]
    · isplitl [HF8]; · iexact HF8
      iexact HR8
    iapply (inv2_intro d L W Vt q0 q1 O Ws t.val _ f)
    isplitl []; · iexact Hmw
    isplitl [HW]; · iexact HW
    isplitl [Hin']; · iexact Hin'
    isplitl [HS6 HX1 HV1]
    · isplitl [HS6]; · iexact HS6
      isplitl [HX1]; · iexact HX1
      iexact HV1
    isplitl [HA]; · iexact HA
    isplitl [HB]; · iexact HB
    isplitl [Hdn]; · iexact Hdn
    isplitl [Htodo]; · iexact Htodo
    unfold owing
    iexists _
    isplitr
    rotate_left
    · iexact HO
    · ipureintro
      repeat refine waits_insert _ ?_
      exact hW'

end Cert.Proof.Vote

end
-- ==== Proof.Tile.lean ====
/-
  The task of one tile, from what it is handed to what it hands back.
-/
module

public import proofs.«01_k».proof.Proof.Step

@[expose] public section

noncomputable section

namespace Cert.Proof.Vote

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "EC" => (countersEmb : UEmb Counters (MT nD τ sig (HIx 1) (Elt F) ℕ UU ℕ))
local notation "vV" => (Memref.whole Cert.KernelIdeal.main_arg0_scv : Memref Cert.KernelIdeal.sig Kind.scVector Space.hbm Cert.KernelIdeal.S64x1048576 EltTy.i32)
local notation "wV" => (Memref.whole Cert.KernelIdeal.main_v1_scv : Memref Cert.KernelIdeal.sig Kind.scVector Space.hbm Cert.KernelIdeal.S64x16 EltTy.f32)
local notation "oV" => (Memref.whole Cert.KernelIdeal.main_v2_scv : Memref Cert.KernelIdeal.sig Kind.scVector Space.hbm Cert.KernelIdeal.S622592 EltTy.i32)
local notation "bW" => (Memref.whole Cert.KernelIdeal.cc0_scratch0 : Memref Cert.KernelIdeal.sig Kind.scVector Space.vmem Cert.KernelIdeal.S64x16 EltTy.f32)
local notation "b0" => (Memref.whole Cert.KernelIdeal.cc0_scratch1 : Memref Cert.KernelIdeal.sig Kind.scVector Space.vmem Cert.KernelIdeal.S64x512 EltTy.i32)
local notation "b1" => (Memref.whole Cert.KernelIdeal.cc0_scratch2 : Memref Cert.KernelIdeal.sig Kind.scVector Space.vmem Cert.KernelIdeal.S64x512 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-- The cell of one of the tile's copies. -/
abbrev cell (d : Dev nD) (L : grid0.Coords) (a : DmaSems sig S_) : GSem nD τ sig := (thr d L, .dma a.sem)
/-- The device's name of one of the tile's buffers. -/
abbrev mine (L : grid0.Coords) (b : Ref sig .scVector) : DevRef τ sig := (Proc.scVector (cV L) (jV L)).devRef b

omit [FloatOps F] in
/-- A copy's counter is one of the tile's own. -/
theorem cell_mem (d : Dev nD) (L : grid0.Coords) (a : DmaSems sig S_) (h : (SemLoc.dma a.sem : SemLoc sig).isScoped .scVector = true) :
    cell d L a ∈ ownCells (thr d L) := mem_ownCells.mpr ⟨rfl, h⟩

omit [FloatOps F] in
/-- Different counters are different cells. -/
theorem cell_ne (d : Dev nD) (L : grid0.Coords) {a b : DmaSems sig S_} (h : a.sem ≠ b.sem) : cell d L a ≠ cell d L b :=
  fun e => h (by injection e with _ e; injection e)

omit [FloatOps F] in
/-- Different buffers of a tile are different places. -/
theorem mine_ne (L : grid0.Coords) {a b : Ref sig .scVector} (h : a ≠ b) : mine L a ≠ mine L b :=
  fun e => h (Proc.devRef_injective _ e)

/-- The tile's cells outside its five copies'. -/
abbrev restCells (d : Dev nD) (L : grid0.Coords) : Finset (GSem nD τ sig) := (((((ownCells (thr d L)).erase (cell d L cc0_scratch5)).erase (cell d L cc0_scratch6)).erase (cell d L cc0_scratch7)).erase (cell d L cc0_scratch8)).erase (cell d L cc0_scoped0)

omit [FloatOps F] in
/-- The tile's counters are its five copies' and the rest. -/
theorem ownSems_tile (d : Dev nD) (L : grid0.Coords) :
    (ownSems0 (thr d L) : sProp 𝕄) = iprop(semVal (cell d L cc0_scratch5) 0 ∗ semVal (cell d L cc0_scratch6) 0 ∗ semVal (cell d L cc0_scratch7) 0 ∗ semVal (cell d L cc0_scratch8) 0 ∗ semVal (cell d L cc0_scoped0) 0 ∗ bigSep (restCells d L) fun g => semVal g 0) := by
  unfold SparseCore.Cfg.ownSems0
  rw [SparseCore.bigSep_erase' (cell_mem d L cc0_scratch5 (by decide)),
    SparseCore.bigSep_erase' (Finset.mem_erase.mpr ⟨cell_ne d L (by decide), cell_mem d L cc0_scratch6 (by decide)⟩),
    SparseCore.bigSep_erase' (Finset.mem_erase.mpr ⟨cell_ne d L (by decide), Finset.mem_erase.mpr ⟨cell_ne d L (by decide), cell_mem d L cc0_scratch7 (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch8 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0 (by decide)⟩⟩⟩⟩)]

/-- The tile's buffers outside its five scratch buffers. -/
abbrev restRefs (L : grid0.Coords) : Finset (DevRef τ sig) := (((((ownRefs (τ := τ) (.scVector (cV L) (jV L))).erase (mine L cc0_scratch0)).erase (mine L cc0_scratch1)).erase (mine L cc0_scratch2)).erase (mine L cc0_scratch3)).erase (mine L cc0_scratch4)

omit [FloatOps F] in
/-- The tile's buffers are its five scratch buffers and the rest. -/
theorem ownBufs_tile (d : Dev nD) (L : grid0.Coords) :
    (ownBufs (thr d L) : sProp 𝕄) = iprop((∃ f, (bW).view.loc (thr d L) ↦{fullShare} f) ∗ (∃ f, (b0).view.loc (thr d L) ↦{fullShare} f) ∗ (∃ f, (b1).view.loc (thr d L) ↦{fullShare} f) ∗ (∃ f, (o0).view.loc (thr d L) ↦{fullShare} f) ∗ (∃ f, (o1).view.loc (thr d L) ↦{fullShare} f)
      ∗ bigSep (restRefs L) fun b => iprop(∃ f, ((d, b) : Loc nD τ sig) ↦{fullShare} f)) := by
  unfold SparseCore.Cfg.ownBufs
  refine (SparseCore.bigSep_erase' (mem_ownRefs_of_owner (p := Proc.scVector (cV L) (jV L)) (b := mine L cc0_scratch0) rfl)).trans ?_
  rw [SparseCore.bigSep_erase' (Finset.mem_erase.mpr ⟨mine_ne L (by decide), mem_ownRefs_of_owner (p := Proc.scVector (cV L) (jV L)) (b := mine L cc0_scratch1) rfl⟩),
    SparseCore.bigSep_erase' (Finset.mem_erase.mpr ⟨mine_ne L (by decide), Finset.mem_erase.mpr ⟨mine_ne L (by decide), mem_ownRefs_of_owner (p := Proc.scVector (cV L) (jV L)) (b := mine L cc0_scratch2) rfl⟩⟩),
    SparseCore.bigSep_erase' (Finset.mem_erase.mpr ⟨mine_ne L (by decide), Finset.mem_erase.mpr ⟨mine_ne L (by decide), Finset.mem_erase.mpr ⟨mine_ne L (by decide), mem_ownRefs_of_owner (p := Proc.scVector (cV L) (jV L)) (b := mine L cc0_scratch3) rfl⟩⟩⟩),
    SparseCore.bigSep_erase' (Finset.mem_erase.mpr ⟨mine_ne L (by decide), Finset.mem_erase.mpr ⟨mine_ne L (by decide), Finset.mem_erase.mpr ⟨mine_ne L (by decide), Finset.mem_erase.mpr ⟨mine_ne L (by decide), mem_ownRefs_of_owner (p := Proc.scVector (cV L) (jV L)) (b := mine L cc0_scratch4) rfl⟩⟩⟩⟩)]

/-- Where the last two result chunks go. -/
theorem off75_at (L : grid0.Coords) (r : Fin 2) : k0_off75 L (BitVec.ofNat 32 (18432 + 512 * r.val)) = ![base L + 1024 * (19 - 1) + 512 * r.val] :=
  (k0_off75_eq L r).trans (congrArg (fun n => ![n]) (show _ = base L + 1024 * (19 - 1) + 512 * r.val by unfold base; omega))

/-- The weights' rows, at share `q`, seen by tile `L`. -/
abbrev wgPts (d : Dev nD) (L : grid0.Coords) (q : PosShare TreeShare) (W : Vec F S64x16 .f32) : sProp 𝕄 := (wV).view.loc (thr d L) ↦{q} W

/-- What tile `L` is handed, its columns of the result at contents `f`: two shares of the votes, one of the weights' rows
    and its columns. -/
abbrev share (d : Dev nD) (L : grid0.Coords) (W : Vec F S64x16 .f32) (Vt : Vec F S64x1048576 .i32) (q0 q1 qw : PosShare TreeShare) (f : Vec F S622592 .i32) : sProp 𝕄 :=
  iprop(vPts d L q0 Vt ∗ vPts d L q1 Vt ∗ wgPts d L qw W ∗ oIv d L (base L) (base L + 19456) f)

/-- What holds before the first trip. -/
theorem inv2_zero (d : Dev nD) (L : grid0.Coords) (W : Vec F S64x16 .f32) (Vt : Vec F S64x1048576 .i32) (q0 q1 : PosShare TreeShare)
    (O : CellTallies nD τ sig (HIx 1)) (Ws W' : Waits sig (HIx 1)) (hW' : ∀ p ∈ W', p ∈ Ws ∨ p.2 = (default : HIx 1)) (X : Vec F S64x512 .i32) (Y0 Y1 : Vec F S512 .i32) (f : Vec F S622592 .i32) :
    iprop(Transfers.MayWaits (thr d L) (default : HIx 1) O ∗ wPts d L W ∗ fly0 d L Vt q0 (base L)
      ∗ (semVal (thr d L, .dma cc0_scratch6.sem) 0 ∗ x1Pts d L X ∗ vPts d L q1 Vt)
      ∗ (semVal (thr d L, .dma cc0_scratch7.sem) 0 ∗ (o0).view.loc (thr d L) ↦{fullShare} Y0)
      ∗ (semVal (thr d L, .dma cc0_scratch8.sem) 0 ∗ (o1).view.loc (thr d L) ↦{fullShare} Y1)
      ∗ oIv d L (base L) (base L + 19456) f ∗ owes (thr d L) O W')
      ⊢ inv2 d L W Vt q0 q1 O Ws 0 ⟨⟩ := by
  unfold inv2 free1 idle0 idle1 owing
  rw [if_pos (by decide), if_pos rfl, if_pos rfl]
  simp only [Nat.zero_sub, Nat.mul_zero, Nat.add_zero]
  iintro ⟨Hmw, HW, Hin, ⟨HS6, HX1, HV1⟩, ⟨HA, HYA⟩, ⟨HB, HYB⟩, Htodo, HO⟩
  isplitl [Hmw]; · iexact Hmw
  isplitl [HW]; · iexact HW
  isplitl [Hin]; · iexact Hin
  isplitl [HS6 HX1 HV1]
  · isplitl [HS6]; · iexact HS6
    isplitl [HX1]; · iexists _; iexact HX1
    iexact HV1
  isplitl [HA HYA]
  · isplitl [HA]; · iexact HA
    iexists _; iexact HYA
  isplitl [HB HYB]
  · isplitl [HB]; · iexact HB
    iexists _; iexact HYB
  isplitr [Htodo HO]; · iapply (oIv_nil d L (base L) (res W Vt))
  isplitl [Htodo]; · iexists _; iexact Htodo
  iexists W'
  isplitr
  · ipureintro; exact hW'
  · iexact HO

/-- The weights' buffer after the copy in holds the rows copied. -/
theorem copied (g W : Vec F S64x16 .f32) :
    View.write (Elt F) (bW).view g ((ReadAs.same (Val := Elt F)).apply ((wV).view.read (Elt F) W)) Finset.univ = W :=
  (View.write_whole_univ (Val := Elt F) cc0_scratch0 _ _).trans rfl

/-- The weights' buffer after the copy holds the rows copied. -/
theorem wPts_copied (d : Dev nD) (L : grid0.Coords) (g w W : Vec F S64x16 .f32) (h : w = W) :
    ((bW).view.loc (thr d L) ↦{fullShare} View.write (Elt F) (bW).view g w Finset.univ : sProp 𝕄) ⊢ wPts d L W := by
  rw [View.write_whole_univ, h]

/-- Where the tile's first chunk of votes lies. -/
theorem off2_at (L : grid0.Coords) : k0_off2 L = ![0, base L] := k0_off2_eq L

/-- What holds after the last trip. -/
theorem inv2_end (d : Dev nD) (L : grid0.Coords) (W : Vec F S64x16 .f32) (Vt : Vec F S64x1048576 .i32) (q0 q1 : PosShare TreeShare)
    (O : CellTallies nD τ sig (HIx 1)) (Ws : Waits sig (HIx 1)) (k : ℕ) (hk : k = 19) (u : PUnit) :
    inv2 d L W Vt q0 q1 O Ws k u ⊢ iprop(wPts d L W ∗ free0 d L Vt q0 ∗ free1 d L Vt q1 ∗ out0 d L (res W Vt) (base L + 1024 * (19 - 1))
      ∗ out1 d L (res W Vt) (base L + 1024 * (19 - 1) + 512) ∗ oIv d L (base L) (base L + 1024 * (19 - 1)) (res W Vt) ∗ owing d L O Ws) := by
  subst hk
  unfold inv2
  rw [if_neg (by decide), if_neg (by decide), if_neg (by decide)]
  iintro ⟨-, HW, H0, H1, HA, HB, Hd, -, HO⟩
  isplitl [HW]; · iexact HW
  isplitl [H0]; · iexact H0
  isplitl [H1]; · iexact H1
  isplitl [HA]; · iexact HA
  isplitl [HB]; · iexact HB
  isplitl [Hd]; · iexact Hd
  iexact HO

set_option maxHeartbeats 2000000 in
/-- THE TASK OF TILE `L`: handed its shares and its columns it ends, whatever `F` is, with the columns at the result. -/
theorem tile_body (d : Dev nD) (L : grid0.Coords) (W : Vec F S64x16 .f32) (Vt : Vec F S64x1048576 .i32) (q0 q1 qw : PosShare TreeShare) (f : Vec F S622592 .i32)
    (hF : (K (F := F)).Facts) (O : CellTallies nD τ sig (HIx 1)) (Ws : Waits sig (HIx 1)) (hO : ∀ g, O g none = 0) :
    iprop(levAts (K (F := F)).L (K (F := F)).lev ∗ emp ∗ share d L W Vt q0 q1 qw f
        ∗ scopedBufs (thr d L) ∗ scopedSems0 (thr d L) ∗ owes (thr d L) O Ws)
      ⊢ wp frame (wpE (defs₀ (F := F)) 𝒱₀ (thr d L) none) Set.univ
          (cc0__vote_sc L vV (Memref.isWhole_whole _) wV (Memref.isWhole_whole _) oV (Memref.isWhole_whole _) bW (Memref.isWhole_whole _)
            b0 (Memref.isWhole_whole _) b1 (Memref.isWhole_whole _) o0 (Memref.isWhole_whole _) o1 (Memref.isWhole_whole _)
            cc0_scratch5 cc0_scratch6 cc0_scratch7 cc0_scratch8 cc0_scoped0)
          fun _ => iprop(share d L W Vt q0 q1 qw (res W Vt) ∗ scopedBufs (thr d L) ∗ scopedSems0 (thr d L)
            ∗ ∃ W', ⌜∀ p ∈ W', p ∈ Ws ∨ p.2 = none⌝ ∗ owes (thr d L) O W') := by
  simp only [cc0__vote_sc_eq_skeleton]; unfold cc0__vote_sc_skel
  rw [(K (F := F)).scopedBufs_V hF d (cV L) (jV L), SparseCore.Cfg.scopedSems0_V (Val := Elt F) d (cV L) (jV L), ownSems_tile, ownBufs_tile]
  iintro ⟨#Hlv, -, ⟨HV0, HV1, HWg, Ho⟩, ⟨⟨%g, HW⟩, ⟨%X0, HX0⟩, ⟨%X1, HX1⟩, ⟨%Y0, HY0⟩, ⟨%Y1, HY1⟩, Hbufs⟩, ⟨HS5, HS6, HS7, HS8, HS9, Hsems⟩, HO⟩
  ihave #Hmw := (show levAts (K (F := F)).L (K (F := F)).lev ⊢ Transfers.MayWaits (thr d L) (default : HIx 1) O from
    (K (F := F)).mayWaits_none (thr := thr d L) hO) $$ Hlv
  sl_exec
  ihave HW' := (wPts_copied d L g (tile_body.sl.dma0 W) W rfl) $$ HW
  ihave Hin := (fly0_intro d L Vt q0 _ _ (off2_at L) (k0_off2_inb L)) $$ [HS5 HV0]
  · isplitl [HS5]; · iexact HS5
    iexact HV0
  sl_for (inv2 d L W Vt q0 q1 O Ws) $$ [HW' Hin HS6 HX1 HV1 HS7 HY0 HS8 HY1 Ho HO]
  case region => exact fun t u => step2 d L W Vt q0 q1 O Ws _ _ (by rw [show Scf.trips k0_t1_loop.lb k0_t1_loop.ub k0_t1_loop.st = 64 from trips1]; exact congrArg (fun A => totL A 64) (copied _ W)) t u
  · iapply (inv2_zero d L W Vt q0 q1 O Ws _ (waits_insert _ fun p hp => .inl hp) _ _ _ f)
    isplitl []; · iexact Hmw
    isplitl [HW']; · iexact HW'
    isplitl [Hin]; · iexact Hin
    isplitl [HS6 HX1 HV1]
    · isplitl [HS6]; · iexact HS6
      isplitl [HX1]; · iexact HX1
      iexact HV1
    isplitl [HS7 HY0]
    · isplitl [HS7]; · iexact HS7
      iexact HY0
    isplitl [HS8 HY1]
    · isplitl [HS8]; · iexact HS8
      iexact HY1
    isplitl [Ho]; · iexact Ho
    iexact HO
  iintro %_ HI
  ihave HI' := (inv2_end d L W Vt q0 q1 O Ws _ trips2 _) $$ HI
  unfold free0 free1 out0 out1 owing
  icases HI' with ⟨HW, ⟨HS5, ⟨%X0', HX0⟩, HV0⟩, ⟨HS6, ⟨%X1', HX1⟩, HV1⟩, ⟨%Y0', HF7, HR7⟩, ⟨%Y1', HF8, HR8⟩, Hdone, ⟨%W', %hW', HO⟩⟩
  sl_exec
  sl_step
  ihave Hcols := (oIv_done d L 19 (by decide) (res W Vt)) $$ [Hdone HF7_dst HF8_dst]
  · isplitl [Hdone]; · iexact Hdone
    isplitl [HF7_dst]; · iexact HF7_dst
    iexact HF8_dst
  ihave Hcols' := (oIv_cast d L (show base L + 1024 * 19 = base L + 19456 by omega) (res W Vt)) $$ Hcols
  isplitl [HV0 HV1 HWg Hcols']
  · isplitl [HV0]; · iexact HV0
    isplitl [HV1]; · iexact HV1
    isplitl [HWg]; · iexact HWg
    iexact Hcols'
  isplitl [HW HX0 HX1 HR7 HR8 Hbufs]
  · isplitl [HW]; · iexists _; iexact HW
    isplitl [HX0]; · iexists _; iexact HX0
    isplitl [HX1]; · iexists _; iexact HX1
    isplitl [HR7]; · iexists _; iexact HR7
    isplitl [HR8]; · iexists _; iexact HR8
    iexact Hbufs
  isplitl [HS5 HS6 HF7 HF8 HS9 Hsems]
  · isplitl [HS5]; · iexact HS5
    isplitl [HS6]; · iexact HS6
    isplitl [HF7]; · iexact HF7
    isplitl [HF8]; · iexact HF8
    isplitl [HS9]; · iexact HS9
    iexact Hsems
  iexists _
  isplitr
  rotate_left
  · iexact HO
  · ipureintro
    exact waits_insert _ (waits_insert _ hW')

end Cert.Proof.Vote

end
-- ==== Proof.Launch.lean ====
/-
  The SparseCore call: how its operands are shared out among the tiles, and the obligations of the launch.
-/
module

public import proofs.«01_k».proof.Proof.Region
public import proofs.«01_k».proof.Proof.Tile
public import Idealize.ShloMosaic.Lib.ShareLeaves
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Vote

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Cfg Window BodyObligation cellOf)

variable {F : FTy → Type} [FloatOps F]

local notation "𝕄" => MT nD τ sig (HIx 1) (Elt F) ℕ UU ℕ

local notation "vV" => (Memref.whole Cert.KernelIdeal.main_arg0_scv : Memref Cert.KernelIdeal.sig Kind.scVector Space.hbm Cert.KernelIdeal.S64x1048576 EltTy.i32)
local notation "wV" => (Memref.whole Cert.KernelIdeal.main_v1_scv : Memref Cert.KernelIdeal.sig Kind.scVector Space.hbm Cert.KernelIdeal.S64x16 EltTy.f32)
local notation "oV" => (Memref.whole Cert.KernelIdeal.main_v2_scv : Memref Cert.KernelIdeal.sig Kind.scVector Space.hbm Cert.KernelIdeal.S622592 EltTy.i32)
local notation "bW" => (Memref.whole Cert.KernelIdeal.cc0_scratch0 : Memref Cert.KernelIdeal.sig Kind.scVector Space.vmem Cert.KernelIdeal.S64x16 EltTy.f32)
local notation "b0" => (Memref.whole Cert.KernelIdeal.cc0_scratch1 : Memref Cert.KernelIdeal.sig Kind.scVector Space.vmem Cert.KernelIdeal.S64x512 EltTy.i32)
local notation "b1" => (Memref.whole Cert.KernelIdeal.cc0_scratch2 : Memref Cert.KernelIdeal.sig Kind.scVector Space.vmem Cert.KernelIdeal.S64x512 EltTy.i32)
local notation "o0" => (Memref.whole Cert.KernelIdeal.cc0_scratch3 : Memref Cert.KernelIdeal.sig Kind.scVector Space.vmem Cert.KernelIdeal.S512 EltTy.i32)
local notation "o1" => (Memref.whole Cert.KernelIdeal.cc0_scratch4 : Memref Cert.KernelIdeal.sig Kind.scVector Space.vmem Cert.KernelIdeal.S512 EltTy.i32)

/-! ## The arrays -/

/-- The votes, the weights, the weights' rows handed to the tiles, the tiles' result. -/
abbrev aLoc (d : Dev nD) : Loc nD τ sig := (SparseCore.T d : Thread nD τ).loc main_arg0
/-- The weights, as given. -/
abbrev gLoc (d : Dev nD) : Loc nD τ sig := (SparseCore.T d : Thread nD τ).loc main_arg1
/-- The weights, one row of 16 copies each. -/
abbrev uLoc (d : Dev nD) : Loc nD τ sig := (SparseCore.T d : Thread nD τ).loc main_v1
/-- The SparseCore's result. -/
abbrev rLoc (d : Dev nD) : Loc nD τ sig := (SparseCore.T d : Thread nD τ).loc main_v2

variable (m : (ℓ : Loc nD τ sig) → Buf (Elt F) ℓ)

/-- The weights as a column and as rows of sixteen. -/
abbrev wCol (d : Dev nD) : Vec F S64x1 .f32 := broadcastInDim S64x1 ![0] bcast_S64_S64x1_0 (m (gLoc d))
/-- Each weight 16 times over. -/
abbrev wRows (d : Dev nD) : Vec F S64x16 .f32 := broadcastInDim S64x16 ![0, 1] bcast_S64x1_S64x16_0_1 (wCol m d)

/-- The tiles' result: every column of theirs at the word the votes of the column give. -/
abbrev scOut (d : Dev nD) : Vec F S622592 .i32 := res (wRows m d) (m (aLoc d))

/-! ## Sharing them out -/

/-- A tile of the launch's grid, by its core and its number on the core. -/
def tileAt (c : Fin 2) (i : Fin 16) : grid0.Coords :=
  fun | 0 => c | 1 => i | ⟨_ + 2, h⟩ => absurd h (Nat.not_lt.2 (Nat.le_add_left _ _))

/-- The share of a whole a tile holds. -/
abbrev part (q : PosShare TreeShare) (c : Fin 2) (i : Fin 16) : PosShare TreeShare := leaf 4 (leaf 1 q c) i

/-- What tile `i` of core `c` is handed, its columns at contents `f`. -/
abbrev tileShare (d : Dev nD) (c : Fin 2) (i : Fin 16) (f : Vec F S622592 .i32) : sProp 𝕄 :=
  share d (tileAt c i) (wRows m d) (m (aLoc d)) (part fullShare.left c i) (part fullShare.right c i) (part fullShare c i) f

omit [FloatOps F] in
/-- A whole held at a share is held by the thirty-two tiles at their parts of it. -/
theorem pts_parts {ℓ : Loc nD τ sig} (f : Buf (Elt F) ℓ) (q : PosShare TreeShare) :
    (ℓ ↦{q} f : sProp 𝕄) = bigSep Finset.univ fun c : Fin 2 => bigSep Finset.univ fun i : Fin 16 => ℓ ↦{part q c i} f :=
  (pointsTo_leaves Finset.univ f 1 q).trans (bigSep_congr fun c _ => pointsTo_leaves Finset.univ f 4 (leaf 1 q c))

/-- The columns of a tile. -/
abbrev tileCols (c : Fin 2) (i : Fin 16) : Finset S622592.Idx := iv (base (tileAt c i)) (base (tileAt c i) + 19456)

/-- Where a tile's columns start. -/
theorem base_tileAt (c : Fin 2) (i : Fin 16) : base (tileAt c i) = 38912 * i.val + 19456 * c.val := rfl

/-- The columns of a core's tiles. -/
def coreCols (c : Fin 2) : Finset S622592.Idx := Finset.univ.biUnion (tileCols c)

/-- Two tiles of one core share no column. -/
theorem tileCols_disjoint (c : Fin 2) : ∀ i ∈ (Finset.univ : Finset (Fin 16)), ∀ j ∈ (Finset.univ : Finset (Fin 16)), i ≠ j → Disjoint (tileCols c i) (tileCols c j) := by
  intro i _ j _ h
  rw [Finset.disjoint_left]
  intro y hi hj
  rw [mem_iv, base_tileAt] at hi hj
  exact h (Fin.ext (by omega))

/-- Two cores share no column. -/
theorem coreCols_disjoint : ∀ c ∈ (Finset.univ : Finset (Fin 2)), ∀ c' ∈ (Finset.univ : Finset (Fin 2)), c ≠ c' → Disjoint (coreCols c) (coreCols c') := by
  intro c _ c' _ h
  rw [Finset.disjoint_left]
  intro y hi hj
  obtain ⟨i, -, hi⟩ := Finset.mem_biUnion.mp hi
  obtain ⟨j, -, hj⟩ := Finset.mem_biUnion.mp hj
  rw [mem_iv, base_tileAt] at hi hj
  have hc := c.isLt; have hc' := c'.isLt
  exact h (Fin.ext (by omega))

/-- Every column is some core's. -/
theorem coreCols_cover : (Finset.univ : Finset (Fin 2)).biUnion coreCols = Finset.univ := by
  ext y
  have hy : (y 0).val < 622592 := (y 0).isLt
  refine ⟨fun _ => Finset.mem_univ _, fun _ => Finset.mem_biUnion.mpr ⟨⟨(y 0).val / 19456 % 2, Nat.mod_lt _ (by decide)⟩, Finset.mem_univ _,
    Finset.mem_biUnion.mpr ⟨⟨(y 0).val / 38912, by omega⟩, Finset.mem_univ _, ?_⟩⟩⟩
  rw [mem_iv, base_tileAt]
  dsimp only
  omega

omit [FloatOps F] in
/-- The tiles' result held whole is every tile's columns held. -/
theorem pts_cols (d : Dev nD) (f : Buf (Elt F) (rLoc d)) :
    (rLoc d ↦{fullShare} f : sProp 𝕄) = bigSep Finset.univ fun c : Fin 2 => bigSep Finset.univ fun i : Fin 16 => rLoc d ↦[tileCols c i]{fullShare} f := by
  rw [show (rLoc d ↦{fullShare} f : sProp 𝕄) = (rLoc d ↦[(Finset.univ : Finset (Fin 2)).biUnion coreCols]{fullShare} f) by rw [coreCols_cover],
    pointsTo_biUnion Finset.univ (ℓ := rLoc d) coreCols coreCols_disjoint]
  exact bigSep_congr fun c _ => pointsTo_biUnion Finset.univ (ℓ := rLoc d) (tileCols c) (tileCols_disjoint c)

/-- The call's operands held whole are every tile's share of them, the result at any contents. -/
theorem deal (d : Dev nD) (f : Vec F S622592 .i32) :
    (iprop((aLoc d ↦{fullShare} m (aLoc d)) ∗ (uLoc d ↦{fullShare} wRows m d) ∗ (rLoc d ↦{fullShare} f)) : sProp 𝕄)
      ⊣⊢ bigSep Finset.univ fun c : Fin 2 => bigSep Finset.univ fun i : Fin 16 => tileShare m d c i f := by
  have e : (bigSep Finset.univ fun c : Fin 2 => bigSep Finset.univ fun i : Fin 16 => tileShare m d c i f)
      = (iprop((aLoc d ↦{fullShare.left} m (aLoc d)) ∗ (aLoc d ↦{fullShare.right} m (aLoc d)) ∗ (uLoc d ↦{fullShare} wRows m d)
        ∗ (rLoc d ↦{fullShare} f)) : sProp 𝕄) := by
    rw [pts_parts (ℓ := aLoc d) _ fullShare.left, pts_parts (ℓ := aLoc d) _ fullShare.right, pts_parts (ℓ := uLoc d) _ fullShare, pts_cols d f]
    simp only [← bigSep_sep']
  rw [e]
  have hs := pointsTo_share (nD := nD) (τ := τ) (sig := sig) (Ix := HIx 1) (Val := Elt F) (Name := ℕ) (U := UU) (Lvl := ℕ) (ℓ := aLoc d) (I := Finset.univ) (f := m (aLoc d))
    (PosShare.mem_left_op_right fullShare)
  constructor
  · iintro ⟨Ha, Hu, Hr⟩
    ihave H := hs.1 $$ Ha
    icases H with ⟨H0, H1⟩
    isplitl [H0]; · iexact H0
    isplitl [H1]; · iexact H1
    isplitl [Hu] <;> iassumption
  · iintro ⟨H0, H1, Hu, Hr⟩
    isplitl [H0 H1]
    · iapply hs.2
      isplitl [H0] <;> iassumption
    isplitl [Hu] <;> iassumption

/-! ## The call's payloads and its obligations -/

/-- The one call hands each core its tiles' shares, each task its own, and they come back with the columns filled. -/
def P : (K (F := F)).Pay (nD := nD) (Val := Elt F) (Name := ℕ) (U := UU) where
  st := fun q d c => match q with | 0 => bigSep Finset.univ fun i : Fin 16 => tileShare m d (Fin.cast nCore_K c) i (m (rLoc d))
  dn := fun q d c => match q with | 0 => bigSep Finset.univ fun i : Fin 16 => tileShare m d (Fin.cast nCore_K c) i (scOut m d)
  go := fun q d c i => match q with | 0 => tileShare m d (Fin.cast nCore_K c) (Fin.cast nSub_K i) (m (rLoc d))
  td := fun q d c i => match q with | 0 => tileShare m d (Fin.cast nCore_K c) (Fin.cast nSub_K i) (scOut m d)
  x := fun _ _ => iprop(emp)

/-- What the handshakes carry can be put away at a launch. -/
instance P_storable : (P (F := F) m).IsStorable where
  st q d c := match q with
    | 0 => (inferInstance : BI.Storable (upEmb : UEmb _ 𝕄) (bigSep Finset.univ fun i : Fin 16 => tileShare m d (Fin.cast nCore_K c) i (m (rLoc d))))
  dn q d c := match q with
    | 0 => (inferInstance : BI.Storable (upEmb : UEmb _ 𝕄) (bigSep Finset.univ fun i : Fin 16 => tileShare m d (Fin.cast nCore_K c) i (scOut m d)))
  go q d c i := match q with
    | 0 => (inferInstance : BI.Storable (upEmb : UEmb _ 𝕄) (tileShare m d (Fin.cast nCore_K c) (Fin.cast nSub_K i) (m (rLoc d))))
  td q d c i := match q with
    | 0 => (inferInstance : BI.Storable (upEmb : UEmb _ 𝕄) (tileShare m d (Fin.cast nCore_K c) (Fin.cast nSub_K i) (scOut m d)))

/-- A vector subcore's body is the kernel at its coordinates. -/
theorem defs₀_vector (c : Fin τ.nSC) (s : Fin τ.nSub) :
    defs₀ (F := F) (.scVector c s) 0 ()
      = SparseCore.onTile hcore0 hsub0 (fun c s => cc0__vote_sc (tileAt c s) vV (Memref.isWhole_whole _) wV (Memref.isWhole_whole _) oV (Memref.isWhole_whole _)
          bW (Memref.isWhole_whole _) b0 (Memref.isWhole_whole _) b1 (Memref.isWhole_whole _) o0 (Memref.isWhole_whole _) o1 (Memref.isWhole_whole _)
          cc0_scratch5 cc0_scratch6 cc0_scratch7 cc0_scratch8 cc0_scoped0) ⟨⟩ c s := rfl

omit [FloatOps F] in
/-- A task whose waits are its own has only its own waits and the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call fills its columns. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (wRows m d) (m (aLoc d)) (part fullShare.left ⟨_, hci.1⟩ ⟨_, hci.2⟩) (part fullShare.right ⟨_, hci.1⟩ ⟨_, hci.2⟩)
    (part fullShare ⟨_, hci.1⟩ ⟨_, hci.2⟩) (m (rLoc d)) hF O W hO).trans (wp_mono frame _ _ fun _ => obl_post)

/-- A core hands its tasks what it was handed and brings back what they bring. -/
theorem vecSplit : (K (F := F)).VecSplit' (P m) 0 := by
  intro d c
  show (bigSep Finset.univ fun i : Fin 16 => tileShare m d (Fin.cast nCore_K c) i (m (rLoc d))) ⊢ |={Set.univ}=> iprop(
      (bigSep Finset.univ fun i : Fin 16 => tileShare m d (Fin.cast nCore_K c) i (m (rLoc d)))
      ∗ ((bigSep Finset.univ fun i : Fin 16 => tileShare m d (Fin.cast nCore_K c) i (scOut m d))
          -∗ bigSep Finset.univ fun i : Fin 16 => tileShare m d (Fin.cast nCore_K c) i (scOut m d)))
  iintro H; imodintro
  isplitl [H]; · iexact H
  iintro H; iexact H

end Cert.Proof.Vote

end
-- ==== Proof.Main.lean ====
/-
  @main on the TensorCore, and the program's run.
-/
module

public import proofs.«01_k».proof.Proof.Launch
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Vote

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the certificate's ghost state -/

/-- The handshakes' rounds, the staging buffers' rounds, no counter. -/
def u₀ : UU := (initOf (K (F := F)).hsCells (K (F := F)).hsToks,
  (initOf (Pipeline.cells (cfgs) cellOf_inj) (Pipeline.launchToks (cfgs) cellOf_inj), 1))

/-- What the TensorCore of a device holds for its pipeline: the staging buffers' cells and their tokens. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
/-- A product of nothing is nothing. -/
theorem bigSep_nothing {I : Type} (s : Finset I) : (bigSep s fun _ => iprop(emp)) = (iprop(emp) : sProp 𝕄) := bigSep_emp_const s

/-- The launch's element deals the handshakes their rounds and each TensorCore its pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (cfgs) cellOf_inj) (Pipeline.launchToks (cfgs) cellOf_inj), 1) : UR sig nD τ × Counters)) $$ Hu
  icases H with ⟨HH, HR⟩
  ihave H2 := (own_pair_emb embR (initOf (Pipeline.cells (cfgs) cellOf_inj) (Pipeline.launchToks (cfgs) cellOf_inj)) (1 : Counters)) $$ HR
  icases H2 with ⟨HP, -⟩
  imod (Pipeline.fund_ghost (cfgs) (EP (F := F)) cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main's own operations -/

/-- Memory read as a valuation with two buffers set. -/
def val2 (d : Dev nD) (x y : Ref sig .tc) (fx : Buf (Elt F) ((SparseCore.T d : Thread nD τ).loc x)) (fy : Buf (Elt F) ((SparseCore.T d : Thread nD τ).loc y)) : Valuation τ sig (Elt F) :=
  Function.update (Function.update (fun b => m (d, b)) (Proc.devRef .tc y) fy) (Proc.devRef .tc x) fx

include m in
/-- A one-operand operation: from its two buffers held whole, the result's is left at the operation's value. -/
theorem op_unary (d : Dev nD) (x y : Ref sig .tc) (hxy : (Proc.devRef .tc x : DevRef τ sig) ≠ Proc.devRef .tc y) (f : x.ty.Contents (Elt F) → y.ty.Contents (Elt F)) (hx hy)
    (fx : Buf (Elt F) ((SparseCore.T d : Thread nD τ).loc x)) (fy : Buf (Elt F) ((SparseCore.T d : Thread nD τ).loc y)) (Q : PUnit → sProp 𝕄) :
    iprop(boundary (SparseCore.T d) ∗ ((SparseCore.T d : Thread nD τ).loc x ↦{fullShare} fx) ∗ ((SparseCore.T d : Thread nD τ).loc y ↦{fullShare} fy))
      ⊢ iprop(((boundary (SparseCore.T d) ∗ ((SparseCore.T d : Thread nD τ).loc x ↦{fullShare} fx) ∗ ((SparseCore.T d : Thread nD τ).loc y ↦{fullShare} f fx)) -∗ Q ⟨⟩)
        -∗ wp frame (wpE ((K (F := F)).defs (D (F := F))) 𝒱 (SparseCore.T d) none) Set.univ (hlo rfl (StableHlo.unary x y f hx hy) fun _ => .ret ⟨⟩) Q) := by
  have ex : val2 m d x y fx fy (Proc.devRef .tc x) = fx := Function.update_self ..
  have ey : val2 m d x y fx fy (Proc.devRef .tc y) = fy := (Function.update_of_ne hxy.symm ..).trans (Function.update_self ..)
  have hne : y ≠ x := fun h => hxy (h ▸ rfl)
  have held2 (W : Valuation τ sig (Elt F)) : (bigSep (StableHlo.unary (τ := τ) x y f hx hy).bufs fun b => ((d, b) ↦{fullShare} W b : sProp 𝕄))
      = iprop(((SparseCore.T d : Thread nD τ).loc x ↦{fullShare} W (Proc.devRef .tc x)) ∗ ((SparseCore.T d : Thread nD τ).loc y ↦{fullShare} W (Proc.devRef .tc y))) := by
    rw [StableHlo.unary_bufs, SparseCore.bigSep_insert' (by rw [Finset.mem_singleton]; exact hxy), bigSep_singleton]
  iintro ⟨Hb, Hx, Hy⟩ Hk
  iapply (wp_hlo 𝒱 (SparseCore.T d) none Set.univ (op := StableHlo.unary x y f hx hy) (q := fun _ => fullShare) (F := val2 m d x y fx fy) (fun _ _ => rfl) rfl) $$ [Hb Hx Hy]
  · isplitl [Hb]; · iexact Hb
    iapply (Entails.of_eq (held2 _).symm)
    rw [ex, ey]
    isplitl [Hx] <;> iassumption
  iintro ⟨Hb, Hh⟩
  ihave H := (Entails.of_eq (held2 _)) $$ Hh
  rw [StableHlo.unary_result, StableHlo.unary_result_ne (h := hne.symm), ex]
  icases H with ⟨Hx, Hy⟩
  rw [wp_ret]; imodintro
  iapply Hk
  isplitl [Hb]; · iexact Hb
  isplitl [Hx] <;> iassumption

include m in
/-- A two-operand operation, the same. -/
theorem op_binary (d : Dev nD) (x z y : Ref sig .tc) (hxz : (Proc.devRef .tc x : DevRef τ sig) ≠ Proc.devRef .tc z) (hxy : (Proc.devRef .tc x : DevRef τ sig) ≠ Proc.devRef .tc y)
    (hzy : (Proc.devRef .tc z : DevRef τ sig) ≠ Proc.devRef .tc y) (f : x.ty.Contents (Elt F) → z.ty.Contents (Elt F) → y.ty.Contents (Elt F)) (hx hz hy)
    (fx : Buf (Elt F) ((SparseCore.T d : Thread nD τ).loc x)) (fz : Buf (Elt F) ((SparseCore.T d : Thread nD τ).loc z)) (fy : Buf (Elt F) ((SparseCore.T d : Thread nD τ).loc y)) (Q : PUnit → sProp 𝕄) :
    iprop(boundary (SparseCore.T d) ∗ ((SparseCore.T d : Thread nD τ).loc x ↦{fullShare} fx) ∗ ((SparseCore.T d : Thread nD τ).loc z ↦{fullShare} fz) ∗ ((SparseCore.T d : Thread nD τ).loc y ↦{fullShare} fy))
      ⊢ iprop(((boundary (SparseCore.T d) ∗ ((SparseCore.T d : Thread nD τ).loc y ↦{fullShare} f fx fz)) -∗ Q ⟨⟩)
        -∗ wp frame (wpE ((K (F := F)).defs (D (F := F))) 𝒱 (SparseCore.T d) none) Set.univ (hlo rfl (StableHlo.binary x z y f hx hz hy) fun _ => .ret ⟨⟩) Q) := by
  let W₀ : Valuation τ sig (Elt F) := Function.update (val2 m d x y fx fy) (Proc.devRef .tc z) fz
  have ez : W₀ (Proc.devRef .tc z) = fz := Function.update_self ..
  have ex : W₀ (Proc.devRef .tc x) = fx := (Function.update_of_ne hxz ..).trans (Function.update_self ..)
  have ey : W₀ (Proc.devRef .tc y) = fy := (Function.update_of_ne hzy.symm ..).trans ((Function.update_of_ne hxy.symm ..).trans (Function.update_self ..))
  have held3 (W : Valuation τ sig (Elt F)) : (bigSep (StableHlo.binary (τ := τ) x z y f hx hz hy).bufs fun b => ((d, b) ↦{fullShare} W b : sProp 𝕄))
      = iprop(((SparseCore.T d : Thread nD τ).loc x ↦{fullShare} W (Proc.devRef .tc x)) ∗ ((SparseCore.T d : Thread nD τ).loc z ↦{fullShare} W (Proc.devRef .tc z))
        ∗ ((SparseCore.T d : Thread nD τ).loc y ↦{fullShare} W (Proc.devRef .tc y))) := by
    rw [StableHlo.binary_bufs, SparseCore.bigSep_insert' (by rw [Finset.mem_insert, Finset.mem_singleton]; rintro (h | h); exacts [hxz h, hxy h]),
      SparseCore.bigSep_insert' (by rw [Finset.mem_singleton]; exact hzy), bigSep_singleton]
  iintro ⟨Hb, Hx, Hz, Hy⟩ Hk
  iapply (wp_hlo 𝒱 (SparseCore.T d) none Set.univ (op := StableHlo.binary x z y f hx hz hy) (q := fun _ => fullShare) (F := W₀) (fun _ _ => rfl) rfl) $$ [Hb Hx Hz Hy]
  · isplitl [Hb]; · iexact Hb
    iapply (Entails.of_eq (held3 _).symm)
    rw [ex, ey, ez]
    isplitl [Hx]; · iexact Hx
    isplitl [Hz] <;> iassumption
  iintro ⟨Hb, Hh⟩
  ihave H := (Entails.of_eq (held3 _)) $$ Hh
  rw [StableHlo.binary_result, ex, ez]
  icases H with ⟨-, -, Hy⟩
  rw [wp_ret]; imodintro
  iapply Hk
  isplitl [Hb] <;> iassumption

/-! ## @main on the TensorCore -/

/-- The weights' column again, the TensorCore half's result, the whole result, as buffers. -/
abbrev kLoc (d : Dev nD) : Loc nD τ sig := (SparseCore.T d : Thread nD τ).loc main_v3
/-- The TensorCore's result. -/
abbrev tLoc (d : Dev nD) : Loc nD τ sig := (SparseCore.T d : Thread nD τ).loc main_v4
/-- The program's result. -/
abbrev yLoc (d : Dev nD) : Loc nD τ sig := (SparseCore.T d : Thread nD τ).loc main_v5

/-- The pipeline's result. -/
abbrev pipeOut (d : Dev nD) : Vec F S425984 .i32 := tcOut (F := F) (fun c => wCol m c) (fun c => m (aLoc c)) (fun c => m (tLoc c)) d

/-- The program's result: the tiles' columns, then the pipeline's. -/
abbrev result (d : Dev nD) : Vec F S1048576 .i32 :=
  concatenate S1048576 0 [⟨S622592, scOut m d⟩, ⟨S425984, pipeOut m d⟩] concatenates_S622592_S425984_S1048576_d0

/-- The region at the launch's memory. -/
abbrev regM := reg (F := F) (fun c => wCol m c) (fun c => m (aLoc c)) (fun c => m (tLoc c))

omit [FloatOps F] in
/-- The TensorCore's arrays, one by one. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (gLoc d ↦{fullShare} W main_arg1)
      ∗ ((SparseCore.T d : Thread nD τ).loc main_v0 ↦{fullShare} W main_v0) ∗ (uLoc d ↦{fullShare} W main_v1) ∗ (rLoc d ↦{fullShare} W main_v2)
      ∗ (kLoc d ↦{fullShare} W main_v3) ∗ (tLoc d ↦{fullShare} W main_v4) ∗ (yLoc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the call takes for both cores. -/
theorem st0_eq (d : Dev nD) : (bigSep Finset.univ fun c : Fin ((K (F := F)).nCore 0) => (P m).st 0 d c)
    = (bigSep Finset.univ fun c : Fin 2 => bigSep Finset.univ fun i : Fin 16 => tileShare m d c i (m (rLoc d)) : sProp 𝕄) := rfl

/-- What it hands back. -/
theorem dn0_eq (d : Dev nD) : (bigSep Finset.univ fun c : Fin ((K (F := F)).nCore 0) => (P m).dn 0 d c)
    = (bigSep Finset.univ fun c : Fin 2 => bigSep Finset.univ fun i : Fin 16 => tileShare m d c i (scOut m d) : sProp 𝕄) := rfl

/-- What @main leaves: the arguments as they were, the result. -/
abbrev FIN (d : Dev nD) : sProp 𝕄 :=
  iprop((aLoc d ↦{fullShare} m (aLoc d)) ∗ (gLoc d ↦{fullShare} m (gLoc d)) ∗ (yLoc d ↦{fullShare} result m d))

/-- The region's call in @main, at the launch's memory: the pipeline's result left at its write-backs. -/
theorem region_wp [∀ e, Nonempty (Elt F e)] (d : Dev nD) (Q : PUnit → sProp 𝕄) :
    iprop(boundary (SparseCore.T d) ∗ ((kLoc d ↦{fullShare} wCol m d) ∗ (aLoc d ↦{fullShare} m (aLoc d)) ∗ (tLoc d ↦{fullShare} m (tLoc d)) ∗ owesTc d)
        ∗ levAts (K (F := F)).L (K (F := F)).lev ∗ G (F := F) d)
      ⊢ iprop(((boundary (SparseCore.T d) ∗ ((kLoc d ↦{fullShare} wCol m d) ∗ (aLoc d ↦{fullShare} m (aLoc d)) ∗ (tLoc d ↦{fullShare} pipeOut m d) ∗ owesTc d)) -∗ Q ⟨⟩)
        -∗ wp frame (wpE ((K (F := F)).defs (D (F := F))) 𝒱 (SparseCore.T d) none) Set.univ
          (Prog.lift (.customCall (SparseCore.inner (Pipeline.entry 0)) ())) Q) := by
  iintro ⟨Hb, Hpre, Hlv, Hc, Ht⟩ Hk
  iapply ((K (F := F)).wp_liftProg (D (F := F)) 𝒱 (SparseCore.T d) Set.univ none (Prog.lift (.customCall (Pipeline.entry 0) ())) Q)
  iapply (Pipeline.RegionSeg.wp (pcfgs (F := F)) adm (dats (F := F) (fun c => wCol m c) (fun c => m (aLoc c)) (fun c => m (tLoc c))) none cellOf_inj (EP (F := F)) defs₀ 𝒱₀
    (K (F := F)).L (K (F := F)).lev (regM m) d none (fun _ h => nomatch h) (fun _ => .ret ⟨⟩) Q)
  isplitl [Hk]
  · iintro ⟨Hb, Hpost⟩
    rw [wp_ret]; imodintro
    iapply Hk
    isplitl [Hb]; · iexact Hb
    iapply (show (regM m).post d ⊢ iprop((kLoc d ↦{fullShare} wCol m d) ∗ (aLoc d ↦{fullShare} m (aLoc d)) ∗ (tLoc d ↦{fullShare} pipeOut m d) ∗ owesTc d) by
      unfold regM reg; exact .rfl)
    iexact Hpost
  isplitl [Hb]; · iexact Hb
  isplitl [Hpre]
  · iapply (show iprop((kLoc d ↦{fullShare} wCol m d) ∗ (aLoc d ↦{fullShare} m (aLoc d)) ∗ (tLoc d ↦{fullShare} m (tLoc d)) ∗ owesTc d) ⊢ (regM m).pre d by
      unfold regM reg; exact .rfl)
    iexact Hpre
  isplitl [Hlv]; · iexact Hlv
  isplitl [Hc] <;> iassumption

set_option maxRecDepth 16384 in
/-- @main on device `d`'s TensorCore: the weights' column and rows, the call, the column again, the region, the joining. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hg, H0, Hu, Hr, Hk, Ht, Hy⟩, Hts, -⟩, HG⟩
  ihave #Hlv := (SparseCore.Cfg.ctx_levAts κ) $$ Hctx
  iapply (op_unary m d main_arg1 main_v0 (by decide) _ _ _ _ _ _) $$ [Hb Hg H0]
  · isplitl [Hb]; · iexact Hb
    isplitl [Hg] <;> iassumption
  iintro ⟨Hb, Hg, H0⟩
  iapply (op_unary m d main_v0 main_v1 (by decide) _ _ _ _ _ _) $$ [Hb H0 Hu]
  · isplitl [Hb]; · iexact Hb
    isplitl [H0] <;> iassumption
  iintro ⟨Hb, -, Hu⟩
  -- the call: the votes, the rows and the tiles' result, shared out and brought back
  iapply ((K (F := F)).wp_run (D (F := F)) 𝒱 (EH := EH) (P := P m) κ d 0) $$ [Hst Ha Hu Hr Hb Hg Hk Ht Hy Hts HG]
  isplitr; · iexact Hctx
  isplitl [Hst]; · iexact Hst
  isplitl [Ha Hu Hr]
  · rw [st0_eq]
    iapply (deal m d (m (rLoc d))).1
    isplitl [Ha]; · iexact Ha
    isplitl [Hu] <;> iassumption
  iintro ⟨Hst, Hdn⟩
  ihave Hdn1 := (Entails.of_eq (dn0_eq m d)) $$ Hdn
  ihave Hdn2 := (deal m d (scOut m d)).2 $$ Hdn1
  icases Hdn2 with ⟨Ha, -, Hr⟩
  iapply (op_unary m d main_arg1 main_v3 (by decide) _ _ _ _ _ _) $$ [Hb Hg Hk]
  · isplitl [Hb]; · iexact Hb
    isplitl [Hg] <;> iassumption
  iintro ⟨Hb, Hg, Hk⟩
  -- the pipeline, the TensorCore's own waits recorded beside the call's
  unfold SparseCore.Cfg.tcSt
  icases Hst with ⟨Ho, Hst⟩
  iapply (region_wp m d _) $$ [Hb Hk Ha Ht Ho HG]
  · isplitl [Hb]; · iexact Hb
    isplitl [Hk Ha Ht Ho]
    · isplitl [Hk]; · iexact Hk
      isplitl [Ha]; · iexact Ha
      isplitl [Ht]; · iexact Ht
      iexact Ho
    isplitr; · iexact Hlv
    iexact HG
  iintro ⟨Hb, -, Ha, Ht, Ho⟩
  iapply (op_binary m d main_v2 main_v4 main_v5 (by decide) (by decide) (by decide) _ _ _ _ _ _ _ _) $$ [Hb Hr Ht Hy]
  · isplitl [Hb]; · iexact Hb
    isplitl [Hr]; · iexact Hr
    isplitl [Ht] <;> iassumption
  iintro ⟨Hb, Hy⟩
  imodintro
  isplitl [Ho Hst]
  · isplitl [Ho]; · iexact Ho
    iexact Hst
  isplitr [Hb Hts]
  · isplitl [Ha]; · iexact Ha
    isplitl [Hg]; · iexact Hg
    iexact Hy
  isplitl [Hb] <;> iassumption

/-- What the final memory of a device holds: the arguments as they were, the result. -/
def fq (d : Dev nD) (s' : Phys nD τ sig (Elt F)) : Prop :=
  s'.mem.mem (aLoc d) = m (aLoc d) ∧ s'.mem.mem (gLoc d) = m (gLoc d) ∧ s'.mem.mem (yLoc d) = result m d

set_option maxRecDepth 16384 in
/-- What @main leaves says so of the memory. -/
theorem hfin (d : Dev nD) (s' : Phys nD τ sig (Elt F)) : iprop(FIN m d ∗ SI s') ⊢ (⌜fq m d s'⌝ : sProp 𝕄) := by
  iintro ⟨⟨Ha, Hg, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := yLoc d) (I := Finset.univ) (q := fullShare) (f := result m d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: on every device the arguments as they were and the result; every semaphore at zero. -/
def QC : PUnit × MemSt nD τ sig (Elt F) → Prop := fun r =>
  (∀ d : Dev nD, r.2.mem (aLoc d) = m (aLoc d) ∧ r.2.mem (gLoc d) = m (gLoc d) ∧ r.2.mem (yLoc d) = result m d) ∧ r.2.sem = fun _ => 0

/-- The program runs, leaves the arguments as they were and its result, and every semaphore at zero — over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Vote

end
-- ==== Proof.Ref.lean ====
module

public import proofs.«01_k».proof.Proof.Common
public import proofs.«01_k».proof.ReferenceIdeal
public import proofs.«01_k».proof.Proof.Gen.ReferenceIdeal
public import Idealize.ShloMosaic.Lib.StableHlo.Run
public import Idealize.ShloMosaic.Adequacy
public import Idealize.ShloMosaic.Init

@[expose] public section

noncomputable section

namespace Cert.Proof.Vote.Ref

open Idealize.ShloMosaic Idealize.ShloMosaic.StableHlo Idealize.SL.Sem
open Cert.ReferenceIdeal Cert.ReferenceIdeal.Gen

variable {F : FTy → Type} [FloatOps F]

/-- The row numbers, counted from zero, spread over the votes of each row. -/
def rowIdx : IVec S1048576x64 32 :=
  broadcastInDim S1048576x64 ![0, 1] bcast_S1048576x1_S1048576x64_0_1
    (broadcastInDim S1048576x1 ![0] bcast_S1048576_S1048576x1_0 (iotaInDim S1048576 32 0))

/-- An index of an axis of extent `n`, a negative one counted from the end. -/
def wrapped (n : BitVec 32) (x : IVec S1048576x64 32) : IVec S1048576x64 32 :=
  select (cmpi .slt x (broadcastInDim S1048576x64 ![] bcast_S_S1048576x64 (constantI S_ 32 0#32)))
    (addi x (broadcastInDim S1048576x64 ![] bcast_S_S1048576x64 (constantI S_ 32 n))) x

/-- Two arrays of numbers, one per vote, side by side as pairs. -/
def sideBySide (a b : IVec S1048576x64x1 32) : IVec S1048576x64x2 32 :=
  concatenate S1048576x64x2 2 [⟨S1048576x64x1, a⟩, ⟨S1048576x64x1, b⟩]
    concatenates_S1048576x64x1_S1048576x64x1_S1048576x64x2_d2

/-- The (row, class) pairs the weights are added at. -/
def pairs (X : IVec S64x1048576 32) : IVec S1048576x64x2 32 :=
  sideBySide
    (broadcastInDim S1048576x64x1 ![0, 1] bcast_S1048576x64_S1048576x64x1_0_1 (wrapped 1048576#32 rowIdx))
    (broadcastInDim S1048576x64x1 ![0, 1] bcast_S1048576x64_S1048576x64x1_0_1
      (wrapped 2#32 (transpose S1048576x64 [1, 0] X transposes_S64x1048576_S1048576x64_1_0)))

/-- The weights, one copy per row. -/
def spread (W : Vec F S64 .f32) : Vec F S1048576x64 .f32 :=
  broadcastInDim S1048576x64 ![0, 1] bcast_S1x64_S1048576x64_0_1 (broadcastInDim S1x64 ![1] bcast_S64_S1x64_1 W)

/-- The counts: zeros with each vote's weight added at its row and class. -/
def counts (X : IVec S64x1048576 32) (W : Vec F S64 .f32) : Vec F S1048576x2 .f32 :=
  Host.scatterAdd scatter_S1048576x2_S1048576x64x2_S1048576x64_n_01_01_2
    (broadcastInDim S1048576x2 ![] bcast_S_S1048576x2 (constant S_ .f32 0x00000000#32)) (pairs X) (spread W)

/-- The counts as whole numbers between 0 and 255. -/
def clipped (C : Vec F S1048576x2 .f32) : IVec S1048576x2 32 :=
  minsi (broadcastInDim S1048576x2 ![] bcast_S_S1048576x2 (constantI S_ 32 255#32))
    (maxsi (broadcastInDim S1048576x2 ![] bcast_S_S1048576x2 (constantI S_ 32 0#32)) (fptosi 32 C))

/-- The second results of a reduction of pairs. -/
def seconds {α β : Type} {s t u : Shape} {axes : List (Fin s.rank)} (f : α × β → α × β → α × β) (x : s.Idx → α) (y : s.Idx → β)
    (ix : u.Idx → α) (iy : u.Idx → β) (h : s.ReducesTo axes t) (hu : 0 < u.numel) : t.Idx → β :=
  fun j => (Host.reduce2 f x y ix iy h hu j).2

/-- The class of the larger count in each row, the first where they are equal. -/
def best (N : IVec S1048576x2 32) : IVec S1048576 32 :=
  seconds reducer_argmax_i32_i32 N (iotaInDim S1048576x2 32 1) (constantI S_ 32 2147483648#32) (constantI S_ 32 0#32)
    reducesTo_S1048576x2_S1048576_d1 h_S_

/-- What the reference returns, of its two arguments. -/
def out (X : IVec S64x1048576 32) (W : Vec F S64 .f32) : IVec S1048576 32 := best (clipped (counts X W))

/-- The operations of the reference in their order, those of the two functions it calls at their calls. -/
abbrev ops : List (HloOp τ sig (Elt F)) :=
  [ unary main_arg0 main_v0 ((transpose S1048576x64 [1, 0] · transposes_S64x1048576_S1048576x64_1_0) : (⟨S64x1048576, .i32⟩ : BufTy).Contents (Elt F) → (⟨S1048576x64, .i32⟩ : BufTy).Contents (Elt F)),
    nullary main_v1 (iotaInDim S1048576 32 0),
    unary main_v1 main_v2 (broadcastInDim S1048576x1 ![0] bcast_S1048576_S1048576x1_0 : (⟨S1048576, .i32⟩ : BufTy).Contents (Elt F) → (⟨S1048576x1, .i32⟩ : BufTy).Contents (Elt F)),
    unary main_v2 main_v3 (broadcastInDim S1048576x64 ![0, 1] bcast_S1048576x1_S1048576x64_0_1 : (⟨S1048576x1, .i32⟩ : BufTy).Contents (Elt F) → (⟨S1048576x64, .i32⟩ : BufTy).Contents (Elt F)),
    unary main_arg1 main_v4 (broadcastInDim S1x64 ![1] bcast_S64_S1x64_1 : (⟨S64, .f32⟩ : BufTy).Contents (Elt F) → (⟨S1x64, .f32⟩ : BufTy).Contents (Elt F)),
    unary main_v4 main_v5 (broadcastInDim S1048576x64 ![0, 1] bcast_S1x64_S1048576x64_0_1 : (⟨S1x64, .f32⟩ : BufTy).Contents (Elt F) → (⟨S1048576x64, .f32⟩ : BufTy).Contents (Elt F)),
    nullary main_cst (constant S_ .f32 0x00000000#32),
    unary main_cst main_v6 (broadcastInDim S1048576x2 ![] bcast_S_S1048576x2 : (⟨S_, .f32⟩ : BufTy).Contents (Elt F) → (⟨S1048576x2, .f32⟩ : BufTy).Contents (Elt F)),
    nullary main_c (constantI S_ 32 0#32),
    unary main_c main_v7 (broadcastInDim S1048576x64 ![] bcast_S_S1048576x64 : (⟨S_, .i32⟩ : BufTy).Contents (Elt F) → (⟨S1048576x64, .i32⟩ : BufTy).Contents (Elt F)),
    binary main_v3 main_v7 main_v8 (cmpi .slt : (⟨S1048576x64, .i32⟩ : BufTy).Contents (Elt F) → (⟨S1048576x64, .i32⟩ : BufTy).Contents (Elt F) → (⟨S1048576x64, .i1⟩ : BufTy).Contents (Elt F)),
    nullary main_c_0 (constantI S_ 32 1048576#32),
    unary main_c_0 main_v9 (broadcastInDim S1048576x64 ![] bcast_S_S1048576x64 : (⟨S_, .i32⟩ : BufTy).Contents (Elt F) → (⟨S1048576x64, .i32⟩ : BufTy).Contents (Elt F)),
    binary main_v3 main_v9 main_v10 (addi : (⟨S1048576x64, .i32⟩ : BufTy).Contents (Elt F) → (⟨S1048576x64, .i32⟩ : BufTy).Contents (Elt F) → (⟨S1048576x64, .i32⟩ : BufTy).Contents (Elt F)),
    ternary main_v8 main_v10 main_v3 main_v11 (select : (⟨S1048576x64, .i1⟩ : BufTy).Contents (Elt F) → (⟨S1048576x64, .i32⟩ : BufTy).Contents (Elt F) → (⟨S1048576x64, .i32⟩ : BufTy).Contents (Elt F) → (⟨S1048576x64, .i32⟩ : BufTy).Contents (Elt F)),
    nullary main_c_1 (constantI S_ 32 0#32),
    unary main_c_1 main_v12 (broadcastInDim S1048576x64 ![] bcast_S_S1048576x64 : (⟨S_, .i32⟩ : BufTy).Contents (Elt F) → (⟨S1048576x64, .i32⟩ : BufTy).Contents (Elt F)),
    binary main_v0 main_v12 main_v13 (cmpi .slt : (⟨S1048576x64, .i32⟩ : BufTy).Contents (Elt F) → (⟨S1048576x64, .i32⟩ : BufTy).Contents (Elt F) → (⟨S1048576x64, .i1⟩ : BufTy).Contents (Elt F)),
    nullary main_c_2 (constantI S_ 32 2#32),
    unary main_c_2 main_v14 (broadcastInDim S1048576x64 ![] bcast_S_S1048576x64 : (⟨S_, .i32⟩ : BufTy).Contents (Elt F) → (⟨S1048576x64, .i32⟩ : BufTy).Contents (Elt F)),
    binary main_v0 main_v14 main_v15 (addi : (⟨S1048576x64, .i32⟩ : BufTy).Contents (Elt F) → (⟨S1048576x64, .i32⟩ : BufTy).Contents (Elt F) → (⟨S1048576x64, .i32⟩ : BufTy).Contents (Elt F)),
    ternary main_v13 main_v15 main_v0 main_v16 (select : (⟨S1048576x64, .i1⟩ : BufTy).Contents (Elt F) → (⟨S1048576x64, .i32⟩ : BufTy).Contents (Elt F) → (⟨S1048576x64, .i32⟩ : BufTy).Contents (Elt F) → (⟨S1048576x64, .i32⟩ : BufTy).Contents (Elt F)),
    unary main_v11 main_v17 (broadcastInDim S1048576x64x1 ![0, 1] bcast_S1048576x64_S1048576x64x1_0_1 : (⟨S1048576x64, .i32⟩ : BufTy).Contents (Elt F) → (⟨S1048576x64x1, .i32⟩ : BufTy).Contents (Elt F)),
    unary main_v16 main_v18 (broadcastInDim S1048576x64x1 ![0, 1] bcast_S1048576x64_S1048576x64x1_0_1 : (⟨S1048576x64, .i32⟩ : BufTy).Contents (Elt F) → (⟨S1048576x64x1, .i32⟩ : BufTy).Contents (Elt F)),
    binary main_v17 main_v18 main_v19 sideBySide,
    ternary main_v6 main_v19 main_v5 main_v20 ((fun x i u => Host.scatterAdd scatter_S1048576x2_S1048576x64x2_S1048576x64_n_01_01_2 x i u) : (⟨S1048576x2, .f32⟩ : BufTy).Contents (Elt F) → (⟨S1048576x64x2, .i32⟩ : BufTy).Contents (Elt F) → (⟨S1048576x64, .f32⟩ : BufTy).Contents (Elt F) → (⟨S1048576x2, .f32⟩ : BufTy).Contents (Elt F)),
    unary main_v20 main_v21 (fptosi 32 : (⟨S1048576x2, .f32⟩ : BufTy).Contents (Elt F) → (⟨S1048576x2, .i32⟩ : BufTy).Contents (Elt F)),
    nullary main_c_3 (constantI S_ 32 0#32),
    nullary main_c_4 (constantI S_ 32 255#32),
    TRef.unary (.of main_c_3) main_call0.v0 id,
    TRef.unary main_call0.v0 main_call0.v1 (broadcastInDim S1048576x2 ![] bcast_S_S1048576x2),
    TRef.binary main_call0.v1 (.of main_v21) main_call0.v2 maxsi,
    TRef.unary (.of main_c_4) main_call0.v3 id,
    TRef.unary main_call0.v3 main_call0.v4 (broadcastInDim S1048576x2 ![] bcast_S_S1048576x2),
    TRef.binary main_call0.v4 main_call0.v2 main_call0.v5 minsi,
    TRef.nullary main_call1.v0 (iotaInDim S1048576x2 32 1),
    TRef.nullary main_call1.c (constantI S_ 32 2147483648#32),
    TRef.nullary main_call1.c_0 (constantI S_ 32 0#32),
    TRef.quaternary (.of main_v22) main_call1.v0 main_call1.c main_call1.c_0 main_call1.v1_0 (fun x y u v j => (Host.reduce2 reducer_argmax_i32_i32 x y u v reducesTo_S1048576x2_S1048576_d1 h_S_ j).1),
    TRef.quaternary (.of main_v22) main_call1.v0 main_call1.c main_call1.c_0 main_call1.v1_1 (fun x y u v j => (Host.reduce2 reducer_argmax_i32_i32 x y u v reducesTo_S1048576x2_S1048576_d1 h_S_ j).2) ]

/-- The reference is the straight line of its operations. -/
theorem main_eq (c : Dev nD) : main (F := F) c = seq ops := by
  simp only [main, fn_clip.body, fn_argmax.body, seq, bind_assoc, pure_bind]
  rfl

/-- The operations leave `out` of the arguments in the result. -/
theorem out_eq (V : Valuation τ sig (Elt F)) :
    after ops V (Proc.devRef .tc main_v23) = out (V (Proc.devRef .tc main_arg0)) (V (Proc.devRef .tc main_arg1)) := by
  after_results_simp
  rfl

/-- The operations leave the votes alone. -/
theorem arg0_eq (V : Valuation τ sig (Elt F)) :
    after ops V (Proc.devRef .tc main_arg0) = V (Proc.devRef .tc main_arg0) := by
  simp only [after_cons, after_nil]
  rfl

/-- The operations leave the weights alone. -/
theorem arg1_eq (V : Valuation τ sig (Elt F)) :
    after ops V (Proc.devRef .tc main_arg1) = V (Proc.devRef .tc main_arg1) := by
  simp only [after_cons, after_nil]
  rfl

/-- Every operation touches arrays of the TensorCore only. -/
theorem ops_sub : (ops : List (HloOp τ sig (Elt F))).Forall fun op => op.bufs ⊆ tcRefs τ sig :=
  ⟨unary_bufs_sub .., nullary_bufs_sub .., unary_bufs_sub .., unary_bufs_sub .., unary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., nullary_bufs_sub .., quaternary_bufs_sub .., quaternary_bufs_sub ..⟩

/-- The reference runs to its end from any memory, each array then holding what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq (by decide) (by decide) defs main (fun _ => ops) main_eq (fun _ => ops_sub) m ρ

/-- The reference's run: the result of the arguments, the arguments kept, every counter at zero. -/
theorem run_out (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v23)
            = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v23).trans (out_eq _), (h c main_arg0).trans (arg0_eq _), (h c main_arg1).trans (arg1_eq _)⟩,
      sem_eq_zero_of_no_sems (by decide) r.2⟩)
    (run_main m ρ)

end Cert.Proof.Vote.Ref

end
-- ==== Proof.Same.lean ====
module

public import proofs.«01_k».proof.Proof.Gen.Kernel
public import proofs.«01_k».proof.Proof.Gen.KernelIdeal

@[expose] public section

noncomputable section

namespace Cert.Proof.Vote

open Idealize.ShloMosaic

variable {F : FTy → Type} [FloatOps F]

/-- The two texts of the program give every processor the same kernel bodies. -/
theorem bodies_same : Cert.Kernel.defs₀ (F := F) = Cert.KernelIdeal.defs₀ (F := F) := by
  funext p l a
  cases p <;> fin_cases l <;> rfl

/-- So the whole body tables are the same. -/
theorem defs_same : Cert.Kernel.defs (F := F) = Cert.KernelIdeal.defs (F := F) := by
  show Cert.Kernel.sc.defs (Pipeline.defs Cert.Kernel.pcfgs Cert.Kernel.defs₀) = _
  rw [bodies_same]
  rfl

/-- And every thread starts the same program. -/
theorem threads_same : Cert.Kernel.threads (F := F) = Cert.KernelIdeal.threads (F := F) := rfl

end Cert.Proof.Vote

end
-- ==== Proof.Scalars.lean ====
/-
  The words of one column over real values. A column is sixty-four votes `Z`, each zero or one, and sixty-four
  weights `w`, none negative, with a sum below 256. `mass w Z b` is the weight of the votes for `b`. Each form of the
  vote, by the sign bit of a difference, by a comparison, and by the first maximum of two counts, gives the same word.
-/
module

public import proofs.«01_k».proof.Proof.Common
public import Idealize.ShloMosaic.PureOps.Ideal.Laws

@[expose] public section

noncomputable section

namespace Cert.Proof.Vote

open Cert.KernelIdeal Cert.KernelIdeal.Gen
open Idealize.ShloMosaic

/-- The weight of the votes for `b` in a column. -/
def mass (w : Fin 64 → ℝ) (Z : Fin 64 → BitVec 32) (b : BitVec 32) : ℝ := ∑ r, if Z r = b then w r else 0

/-- The word of a column: one when the weight for one, rounded down, is above the weight for zero, rounded down. -/
def winner (w : Fin 64 → ℝ) (Z : Fin 64 → BitVec 32) : BitVec 32 :=
  if ⌊mass w Z 0#32⌋₊ < ⌊mass w Z 1#32⌋₊ then 1#32 else 0#32

/-- What a column is asked to satisfy: votes zero or one, weights not negative, their sum below 256. -/
structure Good (w : Fin 64 → ℝ) (Z : Fin 64 → BitVec 32) : Prop where
  votes : ∀ r, Z r = 0#32 ∨ Z r = 1#32
  nonneg : ∀ r, 0 ≤ w r
  small : ∑ r, w r < 256

variable {w : Fin 64 → ℝ} {Z : Fin 64 → BitVec 32}

/-- The two weights of a column make up the whole. -/
theorem mass_add (h : Good w Z) : mass w Z 0#32 + mass w Z 1#32 = ∑ r, w r := by
  unfold mass
  rw [← Finset.sum_add_distrib]
  refine Finset.sum_congr rfl fun r _ => ?_
  rcases h.votes r with e | e <;> simp [e]

/-- No weight of a column is negative. -/
theorem mass_nonneg (h : Good w Z) (b : BitVec 32) : 0 ≤ mass w Z b :=
  Finset.sum_nonneg fun r _ => by split; exacts [h.nonneg r, le_rfl]

/-- The weight for zero is below 256. -/
theorem mass_zero_lt (h : Good w Z) : mass w Z 0#32 < 256 := by
  have := mass_add h; have := mass_nonneg h 1#32; have := h.small; linarith

/-- The weight for one is below 256. -/
theorem mass_one_lt (h : Good w Z) : mass w Z 1#32 < 256 := by
  have := mass_add h; have := mass_nonneg h 0#32; have := h.small; linarith

/-- The sum of the products of the votes and the weights is the weight for one. -/
theorem mass_one (h : Good w Z) : mass w Z 1#32 = ∑ r, (((Z r).toInt : ℤ) : ℝ) * w r := by
  refine Finset.sum_congr rfl fun r _ => ?_
  rcases h.votes r with e | e <;> rw [e] <;> simp

/-- A real between zero and 256 as a word: its whole part. -/
theorem fptosi_small {r : ℝ} (h0 : 0 ≤ r) (h1 : r < 256) :
    Ideal.fptosi 32 ((r : ℝ) : EReal) = BitVec.ofNat 32 ⌊r⌋₊ := by
  have hf : ⌊r⌋ = ((⌊r⌋₊ : ℕ) : ℤ) := (Int.natCast_floor_eq_floor h0).symm
  have hl : ⌊r⌋₊ < 256 := (Nat.floor_lt h0).2 (by exact_mod_cast h1)
  unfold Ideal.fptosi
  rw [Ideal.toIntClamped_coe, if_pos h0, hf, min_eq_right (by norm_num; omega), max_eq_right (by norm_num)]
  exact BitVec.ofInt_natCast 32 _

/-- The whole parts are below 256. -/
theorem floor_small {r : ℝ} (h0 : 0 ≤ r) (h1 : r < 256) : ⌊r⌋₊ < 256 := (Nat.floor_lt h0).2 (by exact_mod_cast h1)

/-- The last bit of a word shifted to its sign is the sign bit. -/
theorem sign_word (x : BitVec 32) : IntOp.andi (IntOp.shrsi .vector x 31#32) 1#32 = if x.msb then 1#32 else 0#32 := by
  have e : IntOp.shrsi .vector x 31#32 = x.sshiftRight 31 := by
    unfold IntOp.shrsi; rw [if_pos (by decide)]; rfl
  rw [e]
  unfold IntOp.andi
  ext i hi
  rcases Nat.eq_zero_or_pos i with rfl | hp
  · cases hm : x.msb <;> simp [BitVec.getElem_sshiftRight, BitVec.msb_eq_getLsbD_last] at hm ⊢ <;> simpa using hm
  · have : (1#32)[i] = false := by simp; omega
    cases hm : x.msb <;> simp [this] <;> omega

/-- The sign of a difference of two small words. -/
theorem sub_msb {a b : ℕ} (ha : a < 256) (hb : b < 256) : (BitVec.ofNat 32 a - BitVec.ofNat 32 b).msb = decide (a < b) := by
  rw [BitVec.msb_eq_decide, BitVec.toNat_sub, BitVec.toNat_ofNat, BitVec.toNat_ofNat, decide_eq_decide]
  omega

/-- Two small words compare, read signed, as their numbers. -/
theorem small_slt {a b : ℕ} (ha : a < 256) (hb : b < 256) : (BitVec.ofNat 32 a).slt (BitVec.ofNat 32 b) = decide (a < b) := by
  have e : ∀ n, n < 256 → (BitVec.ofNat 32 n).toInt = (n : ℤ) := fun n hn => by
    rw [BitVec.toInt_eq_toNat_of_lt (by rw [BitVec.toNat_ofNat]; omega), BitVec.toNat_ofNat]; omega
  rw [BitVec.slt_eq_decide, e a ha, e b hb, decide_eq_decide]; omega

/-- The running count of a column is the weight for one. -/
theorem cnt_eq (h : Good w Z) : cnt (F := Ideal) (fun r => ((w r : ℝ) : EReal)) Z 64 = ((mass w Z 1#32 : ℝ) : EReal) := by
  have key : ∀ k, k ≤ 64 → cnt (F := Ideal) (fun r => ((w r : ℝ) : EReal)) Z k
      = ((∑ r ∈ Finset.univ.filter (fun r : Fin 64 => r.val < k), (((Z r).toInt : ℤ) : ℝ) * w r : ℝ) : EReal) := by
    intro k
    induction k with
    | zero => intro _; simp [cnt, zeroF]
    | succ k ih =>
      intro hk
      have hs : Finset.univ.filter (fun r : Fin 64 => r.val < k + 1)
          = insert (⟨k, hk⟩ : Fin 64) (Finset.univ.filter (fun r : Fin 64 => r.val < k)) := by
        ext r; simp [Fin.ext_iff]; omega
      rw [cnt, dif_pos (show k < 64 from hk), ih (by omega), hs, Finset.sum_insert (by simp), add_comm, EReal.coe_add, EReal.coe_mul]
      rfl
  rw [key 64 le_rfl, mass_one h, Finset.filter_true_of_mem fun r _ => r.isLt]

/-- The running total of the weights is their sum. -/
theorem tot_eq : tot (F := Ideal) (fun r => ((w r : ℝ) : EReal)) 64 = ((∑ r, w r : ℝ) : EReal) := by
  have key : ∀ k, k ≤ 64 → tot (F := Ideal) (fun r => ((w r : ℝ) : EReal)) k
      = ((∑ r ∈ Finset.univ.filter (fun r : Fin 64 => r.val < k), w r : ℝ) : EReal) := by
    intro k
    induction k with
    | zero => intro _; simp [tot, zeroF]
    | succ k ih =>
      intro hk
      have hs : Finset.univ.filter (fun r : Fin 64 => r.val < k + 1)
          = insert (⟨k, hk⟩ : Fin 64) (Finset.univ.filter (fun r : Fin 64 => r.val < k)) := by
        ext r; simp [Fin.ext_iff]; omega
      rw [tot, dif_pos (show k < 64 from hk), ih (by omega), hs, Finset.sum_insert (by simp), add_comm, EReal.coe_add]
      rfl
  rw [key 64 le_rfl, Finset.filter_true_of_mem fun r _ => r.isLt]

/-- What is left of the total beside the weight for one is the weight for zero. -/
theorem rest_eq (h : Good w Z) :
    FloatOps.subf (F := Ideal) (φ := .f32) ((∑ r, w r : ℝ) : EReal) ((mass w Z 1#32 : ℝ) : EReal) = ((mass w Z 0#32 : ℝ) : EReal) := by
  have e : mass w Z 0#32 = (∑ r, w r) - mass w Z 1#32 := by rw [← mass_add h]; ring
  rw [e, EReal.coe_sub]; rfl

/-- The word by the sign bit of the difference is the winner. -/
theorem word_eq (h : Good w Z) : word (F := Ideal) ((∑ r, w r : ℝ) : EReal) ((mass w Z 1#32 : ℝ) : EReal) = winner w Z := by
  have e0 := fptosi_small (mass_nonneg h 0#32) (mass_zero_lt h)
  have e1 := fptosi_small (mass_nonneg h 1#32) (mass_one_lt h)
  unfold word winner
  rw [rest_eq h]
  change IntOp.andi (IntOp.shrsi .vector (Ideal.fptosi 32 ((mass w Z 0#32 : ℝ) : EReal) - Ideal.fptosi 32 ((mass w Z 1#32 : ℝ) : EReal)) 31#32) 1#32 = _
  rw [e0, e1, sign_word, sub_msb (floor_small (mass_nonneg h 0#32) (mass_zero_lt h)) (floor_small (mass_nonneg h 1#32) (mass_one_lt h))]
  simp

/-- The word by a comparison is the winner. -/
theorem cmp_eq (h : Good w Z) :
    (IntOp.cmpi .sgt (Ideal.fptosi 32 ((mass w Z 1#32 : ℝ) : EReal)) (Ideal.fptosi 32 ((mass w Z 0#32 : ℝ) : EReal))).setWidth 32
      = winner w Z := by
  rw [fptosi_small (mass_nonneg h 0#32) (mass_zero_lt h), fptosi_small (mass_nonneg h 1#32) (mass_one_lt h)]
  unfold IntOp.cmpi winner
  simp only []
  rw [small_slt (floor_small (mass_nonneg h 0#32) (mass_zero_lt h)) (floor_small (mass_nonneg h 1#32) (mass_one_lt h))]
  by_cases hl : ⌊mass w Z 0#32⌋₊ < ⌊mass w Z 1#32⌋₊ <;> simp [hl]

end Cert.Proof.Vote

end
-- ==== Proof.Pre.lean ====
/-
  The precondition read: every vote is zero or one, and the weights are reals, none negative, with a sum below 256.
-/
module

public import proofs.«01_k».proof.Proof.Scalars

@[expose] public section

noncomputable section

namespace Cert.Proof.Vote

open Cert.KernelIdeal Cert.KernelIdeal.Gen
open Idealize.ShloMosaic

/-- The side conditions of the precondition's operations. -/
instance preFacts : Cert.Pre_votes_and_weights.Facts where
  bcast_S_S64x1048576 := by decide
  reducesTo_S64x1048576_S_d0_1 := by decide
  h_S_ := by decide
  bcast_S_S64 := by decide
  reducesTo_S64_S_d0 := by decide

/-- Two bits whose conjunction is one are one. -/
theorem andi_one {a b : BitVec 1} (h : IntOp.andi a b = 1#1) : a = 1#1 ∧ b = 1#1 := by
  revert h; unfold IntOp.andi; revert a b; decide

/-- A conjunction over a whole array is one only when every entry is. -/
theorem all_one {s t u : Shape} {axes : List (Fin s.rank)} (x : s.Idx → BitVec 1) (init : u.Idx → BitVec 1)
    (h : s.ReducesTo axes t) (hu : 0 < u.numel) (ht : ∀ i j : t.Idx, i = j) (j : t.Idx)
    (e : Host.reduce IntOp.andi x init h hu j = 1#1) (i : s.Idx) : x i = 1#1 := by
  have key : ∀ (S : Finset s.Idx), S.fold IntOp.andi (init (Shape.Idx.first hu)) x = 1#1 → ∀ i ∈ S, x i = 1#1 := by
    intro S
    induction S using Finset.cons_induction with
    | empty => intro _ i hi; exact absurd hi (by simp)
    | cons a S ha ih =>
      intro hS i hi
      rw [Finset.fold_cons] at hS
      rcases Finset.mem_cons.1 hi with rfl | hi
      · exact (andi_one hS).1
      · exact ih (andi_one hS).2 i hi
  rw [Host.reduce_eq_fold] at e
  exact key _ e i (Finset.mem_filter.2 ⟨Finset.mem_univ _, ht _ _⟩)

/-- The bound on the weights' sum as a number. -/
theorem bound_bits : Ideal.ofBits .f32 0x43800000#32 = ((256 : ℝ) : EReal) := by
  simp [Ideal.ofBits, Ideal.ieee, -EReal.coe_mul]; norm_num

/-- The sum over a vector's indices as a sum over its entries' numbers. -/
theorem sum_idx {M : Type} [AddCommMonoid M] (f : S64.Idx → M) : ∑ i : S64.Idx, f i = ∑ r : Fin 64, f (ix1 r) :=
  (Fintype.sum_bijective (fun r : Fin 64 => (ix1 r : S64.Idx))
    ⟨fun a b h => congrFun h 0, fun y => ⟨y 0, funext fun a => by match a with | ⟨0, _⟩ => rfl⟩⟩ _ _ fun _ => rfl).symm

/-- A sum of reals read in the extended reals. -/
theorem coe_total {ι : Type} (S : Finset ι) (f : ι → ℝ) : ((∑ i ∈ S, f i : ℝ) : EReal) = ∑ i ∈ S, ((f i : ℝ) : EReal) := by
  induction S using Finset.cons_induction with
  | empty => simp
  | cons a S ha ih => rw [Finset.sum_cons, Finset.sum_cons, EReal.coe_add, ih]

/-- What the precondition says of the votes and the weights. -/
theorem pre_good (X : IVec S64x1048576 32) (W : FVec Ideal S64 .f32)
    (h : Cert.Pre_votes_and_weights.fn (F := Ideal) X W = fun _ => 1#1) :
    ∃ w : Fin 64 → ℝ, (∀ r, W (ix1 r) = ((w r : ℝ) : EReal)) ∧ ∀ b : Fin 1048576, Good w (fun r => X (ix2 r b)) := by
  have h0 := congrFun h (fun a => a.elim0)
  have hd : ∀ i j : (⟨0, ![]⟩ : Shape).Idx, i = j := fun i j => funext fun a => a.elim0
  obtain ⟨h1, hs⟩ := andi_one h0
  obtain ⟨hv, hw⟩ := andi_one h1
  have votes : ∀ i, X i = 0#32 ∨ X i = 1#32 := fun i => by
    have e := all_one _ _ _ _ hd _ hv i
    change IntOp.ori (IntOp.cmpi .eq (X i) 0#32) (IntOp.cmpi .eq (X i) 1#32) = 1#1 at e
    by_contra hn
    push Not at hn
    simp only [IntOp.ori, IntOp.cmpi, beq_eq_false_iff_ne.2 hn.1, beq_eq_false_iff_ne.2 hn.2] at e
    exact absurd e (by decide)
  have nonneg : ∀ i, (0 : EReal) ≤ W i := fun i => by
    have e := all_one _ _ _ _ hd _ hw i
    change Ideal.cmp .oge (W i) (Ideal.ofBits .f32 0x00000000#32) = 1#1 at e
    rw [Ideal.ofBits_zero_f32] at e
    by_contra hn
    simp [Ideal.cmp, hn] at e
  have small : ∑ r, W (ix1 r) < ((256 : ℝ) : EReal) := by
    change Ideal.cmp .olt (Ideal.hostReduceAdd _ W (Ideal.ofBits .f32 0x00000000#32) _) (Ideal.ofBits .f32 0x43800000#32) = 1#1 at hs
    rw [Ideal.hostReduceAdd_total _ (fun b => b.elim0), Ideal.ofBits_zero_f32, bound_bits, zero_add, sum_idx] at hs
    by_contra hn
    simp [Ideal.cmp, hn] at hs
  have top : ∀ r, W (ix1 r) ≠ ⊤ := fun r e => by
    have : (⊤ : EReal) ≤ ∑ r, W (ix1 r) := e ▸ Finset.single_le_sum (f := fun r => W (ix1 r)) (fun i _ => nonneg _) (Finset.mem_univ r)
    exact absurd (lt_of_le_of_lt this small) (by simp)
  have real : ∀ r, W (ix1 r) = (((W (ix1 r)).toReal : ℝ) : EReal) := fun r =>
    (EReal.coe_toReal (top r) (fun e => absurd (e ▸ nonneg (ix1 r)) (by simp))).symm
  refine ⟨fun r => (W (ix1 r)).toReal, real, fun b => ⟨fun r => votes _, fun r => EReal.toReal_nonneg (nonneg _), ?_⟩⟩
  have e : ((∑ r, (W (ix1 r)).toReal : ℝ) : EReal) = ∑ r, W (ix1 r) := by
    rw [coe_total]
    exact Finset.sum_congr rfl fun r _ => (real r).symm
  rw [← e] at small
  exact_mod_cast small

end Cert.Proof.Vote

end
-- ==== Proof.TcValue.lean ====
/-
  The TensorCore half's value under the precondition: each of its columns gets its winner.
-/
module

public import proofs.«01_k».proof.Proof.Region
public import proofs.«01_k».proof.Proof.Pre
public import Idealize.ShloMosaic.Lib.Pipeline.ValueKit.Geometry

@[expose] public section

noncomputable section

namespace Cert.Proof.Vote

open Cert.KernelIdeal Cert.KernelIdeal.Gen
open Idealize.ShloMosaic Idealize.ShloMosaic.TcCoe

variable {w : Fin 64 → ℝ}

/-- A sum over a column of extent one. -/
theorem sum_col (f : S64x1.Idx → EReal) : ∑ i, f i = ∑ r : Fin 64, f (ix2 r (0 : Fin 1)) := by
  rw [sum_idx2 f]
  exact Finset.sum_congr rfl fun r _ => by rw [Fintype.sum_unique]; rfl

/-- The weights' sum as a block's body takes it. -/
theorem block_total (Wc : Vec Ideal S64x1 .f32) (hW : ∀ r, Wc (ix2 r (0 : Fin 1)) = ((w r : ℝ) : EReal)) (j : S1.Idx) :
    multiReduction (F := Ideal) (φ := .f32) .add [1, 2] S1 (shapeCast S1x64x1 Wc shapeCasts_S64x1_S1x64x1) 0x00000000#32
      reduces_S1x64x1_S1 (.inl rfl) rfl j = ((∑ r, w r : ℝ) : EReal) := by
  refine (Ideal.multiReduction_add_total _ _ _ (fun b => by match b with | ⟨0, _⟩ => rfl) _ _ _).trans ?_
  unfold shapeCast
  rw [Equiv.sum_comp (Shape.reshapeEquiv shapeCasts_S64x1_S1x64x1) Wc, sum_col, coe_total]
  exact Finset.sum_congr rfl fun r _ => hW r

/-- The sum of a column's products as a block's body takes it. -/
theorem block_count (V : Vec Ideal S64x8192 .i32) (Wc : Vec Ideal S64x1 .f32)
    (hW : ∀ r, Wc (ix2 r (0 : Fin 1)) = ((w r : ℝ) : EReal)) (i : Fin 8192) (hg : Good w (fun r => V (ix2 r i))) :
    multiReduction (F := Ideal) (φ := .f32) .add [0] S8192
      (mulf (sitofp .f32 V) (broadcastTo S64x8192 Wc broadcasts_S64x1_S64x8192)) 0x00000000#32
      reduces_S64x8192_S8192 (.inl rfl) rfl (ix1 i) = ((mass w (fun r => V (ix2 r i)) 1#32 : ℝ) : EReal) := by
  refine (Ideal.multiReduction_add_single _ _ _ _ _ _).trans ?_
  rw [mass_one hg, coe_total]
  refine Finset.sum_congr rfl fun r _ => ?_
  rw [EReal.coe_mul]
  have eL : reduces_S64x8192_S8192.lift (ix1 i) r = ix2 r i := funext fun a => by
    match a with
    | ⟨0, _⟩ => rfl
    | ⟨1, _⟩ => rfl
  have eB : broadcastTo S64x8192 Wc broadcasts_S64x1_S64x8192 (ix2 r i) = ((w r : ℝ) : EReal) := by
    rw [← hW r]
    unfold broadcastTo
    exact congrArg Wc (funext fun a => by
      match a with
      | ⟨0, _⟩ => rfl
      | ⟨1, _⟩ => rfl)
  rw [eL]
  show _ * broadcastTo S64x8192 Wc broadcasts_S64x1_S64x8192 (ix2 r i) = _
  rw [eB]
  rfl

/-- The word a block's body writes for a column is the column's winner. -/
theorem block_word (V : Vec Ideal S64x8192 .i32) (Wc : Vec Ideal S64x1 .f32)
    (hW : ∀ r, Wc (ix2 r (0 : Fin 1)) = ((w r : ℝ) : EReal)) (i : Fin 8192) (hg : Good w (fun r => V (ix2 r i))) :
    k1_pay1 (F := Ideal) V Wc (ix1 i) = winner w (fun r => V (ix2 r i)) := by
  rw [← cmp_eq hg, ← rest_eq hg]
  unfold k1_pay1
  simp only [shapeCast_self]
  exact congrArg₂ (fun c t : EReal => (IntOp.cmpi .sgt (Ideal.fptosi 32 c) (Ideal.fptosi 32
    (FloatOps.subf (F := Ideal) (φ := .f32) t c))).setWidth 32) (block_count V Wc hW i hg) (block_total Wc hW _)

/-- The weights' block is the whole column at every point. -/
theorem index_w : ∀ t : Fin cfg1.N, win1_0.index t = ![0, 0] := (by decide +kernel : ∀ t : Fin grid1.N, _)

/-- The votes' block of a point starts 76 blocks further on. -/
theorem index_v : ∀ t : Fin cfg1.N, win1_1.index t = ![0, t.val + 76] := (by decide +kernel : ∀ t : Fin grid1.N, _)

/-- The result's block of a point is the point's number. -/
theorem index_o : ∀ t : Fin cfg1.N, win1_2.index t = ![t.val] := (by decide +kernel : ∀ t : Fin grid1.N, _)

/-- A column of the TensorCore half among all of them. -/
def tcCol (y : S425984.Idx) : Fin 1048576 := ⟨622592 + (y 0).val, by have : (y 0).val < 425984 := (y 0).isLt; omega⟩

/-- The TensorCore half's result is each column's winner. -/
theorem tc_value (x3 : (c : Dev nD) → Buf (Elt Ideal) ((c : Thread nD τ).loc main_v3)) (x0 : (c : Dev nD) → Buf (Elt Ideal) ((c : Thread nD τ).loc main_arg0))
    (x4 : (c : Dev nD) → Buf (Elt Ideal) ((c : Thread nD τ).loc main_v4)) (c : Dev nD)
    (hW : ∀ r : Fin 64, (x3 c : Vec Ideal S64x1 .f32) (ix2 r (0 : Fin 1)) = ((w r : ℝ) : EReal))
    (hg : ∀ b : Fin 1048576, Good w (fun r => (x0 c : Vec Ideal S64x1048576 .i32) (ix2 r b))) :
    (tcOut (F := Ideal) x3 x0 x4 c : Vec Ideal S425984 .i32)
      = fun y => winner w (fun r => (x0 c : Vec Ideal S64x1048576 .i32) (ix2 r (tcCol y))) := by
  unfold tcOut
  refine (dat x3 x0 x4 c).arrAt_eq_of_covers 2 _ (by decide +kernel) fun t hf y => ?_
  blk_simp
  have ht : t.val < 52 := t.isLt
  obtain ⟨i, rfl⟩ : ∃ i : Fin 8192, y = ix1 i := ⟨y 0, by funext a; match a with | ⟨0, _⟩ => rfl⟩
  have hw' : ∀ r : Fin 64, blkW x3 c t (ix2 r (0 : Fin 1)) = ((w r : ℝ) : EReal) := fun r => by
    refine Eq.trans ?_ (hW r)
    show x3 c (((cfg1.win 0).blk t).view.emb (ix2 r (0 : Fin 1))) = _
    refine congrArg (x3 c) (funext fun a => Fin.ext ?_)
    match a with
    | ⟨0, _⟩ => blk_simp [index_w]
    | ⟨1, _⟩ => blk_simp [index_w]
  have hv : ∀ r : Fin 64, blkV x0 c t (ix2 r i) = x0 c (ix2 r (tcCol ((win1_2.blk t).view.emb (ix1 i)))) := fun r => by
    show x0 c (((cfg1.win 1).blk t).view.emb (ix2 r i)) = _
    refine congrArg (x0 c) (funext fun a => Fin.ext ?_)
    match a with
    | ⟨0, _⟩ => blk_simp [index_v]
    | ⟨1, _⟩ =>
      blk_simp [index_v, index_o, tcCol]
      show (t.val + 76) * 8192 + i.val = 622592 + (t.val * 8192 + i.val)
      omega
  have hg' : (fun r => blkV x0 c t (ix2 r i)) = fun r => x0 c (ix2 r (tcCol ((win1_2.blk t).view.emb (ix1 i)))) := funext hv
  show k1_pay1 (F := Ideal) (blkV x0 c t) (blkW x3 c t) (ix1 i) = _
  rw [← hg']
  exact block_word (blkV x0 c t) (blkW x3 c t) hw' i (hg' ▸ hg _)

end Cert.Proof.Vote

end
-- ==== Proof.RefValue.lean ====
/-
  The reference's result under the precondition: each column's winner. The counts it adds up by class are the two
  weights of the column, and the class of the larger one, rounded down, is one exactly when the column's winner is.
-/
module

public import proofs.«01_k».proof.Proof.Pre
public import proofs.«01_k».proof.Proof.Ref
public import Idealize.ShloMosaic.Lib.Routing.OpsPair

@[expose] public section

noncomputable section

namespace Cert.Proof.Vote.Ref

open Cert.ReferenceIdeal Cert.ReferenceIdeal.Gen
open Idealize.ShloMosaic

/-- The index of a vote's pair component. -/
def at3 (b : Fin 1048576) (v : Fin 64) (c : Fin 2) : S1048576x64x2.Idx := fun a =>
  match a with
  | ⟨0, _⟩ => b
  | ⟨1, _⟩ => v
  | ⟨2, _⟩ => c

/-- The index of a vote's number alone. -/
def at31 (b : Fin 1048576) (v : Fin 64) : S1048576x64x1.Idx := fun a =>
  match a with
  | ⟨0, _⟩ => b
  | ⟨1, _⟩ => v
  | ⟨2, _⟩ => ⟨0, Nat.one_pos⟩

/-- A number not negative stays as it is. -/
theorem wrapped_id (n : BitVec 32) (x : IVec S1048576x64 32) (i : S1048576x64.Idx) (h : (x i).slt 0#32 = false) :
    wrapped n x i = x i := by
  show (if IntOp.cmpi .slt (x i) 0#32 = 1 then _ else x i) = x i
  rw [if_neg]
  unfold IntOp.cmpi
  simp only []
  rw [h]
  decide

/-- A row number is small. -/
theorem row_small (b : Fin 1048576) : (BitVec.ofNat 32 b.val).toInt = (b.val : ℤ) := by
  have := b.isLt
  rw [BitVec.toInt_eq_toNat_of_lt (by rw [BitVec.toNat_ofNat]; omega), BitVec.toNat_ofNat]; omega

/-- An array with an axis of extent one added, read at an index. -/
theorem one_more (x : IVec S1048576x64 32) (b : Fin 1048576) (v : Fin 64) :
    broadcastInDim S1048576x64x1 ![0, 1] bcast_S1048576x64_S1048576x64x1_0_1 x (at31 b v) = x (ix2 b v) := by
  unfold broadcastInDim
  exact congrArg x (funext fun a => by
    match a with
    | ⟨0, _⟩ => rfl
    | ⟨1, _⟩ => rfl)

/-- A copy of the weights read at a row and a voter. -/
theorem spread_at {F : FTy → Type} [FloatOps F] (W : Vec F S64 .f32) (b : Fin 1048576) (v : Fin 64) :
    spread W (ix2 b v) = W (ix1 v) := by
  unfold spread broadcastInDim
  exact congrArg W (funext fun a => by
    match a with
    | ⟨0, _⟩ => rfl)

/-- The first of a pair is the row's number. -/
theorem pairs_row (X : IVec S64x1048576 32) (b : Fin 1048576) (v : Fin 64) : pairs X (at3 b v 0) = BitVec.ofNat 32 b.val := by
  unfold pairs sideBySide
  rw [concatenate_pair_apply_left (t := S1048576x64x2) (s₁ := S1048576x64x1) (s₂ := S1048576x64x1) 2 _ _ _ (at3 b v 0) rfl (at31 b v) (fun a => by
    match a with
    | ⟨0, _⟩ => rfl
    | ⟨1, _⟩ => rfl
    | ⟨2, _⟩ => rfl)]
  rw [one_more, wrapped_id]
  · rfl
  · show (BitVec.ofNat 32 b.val).slt 0#32 = false
    rw [BitVec.slt_eq_decide, row_small]; simp

/-- The second of a pair is the vote. -/
theorem pairs_vote (X : IVec S64x1048576 32) (b : Fin 1048576) (v : Fin 64) (h : X (ix2 v b) = 0#32 ∨ X (ix2 v b) = 1#32) :
    pairs X (at3 b v 1) = X (ix2 v b) := by
  have e : transpose S1048576x64 [1, 0] X transposes_S64x1048576_S1048576x64_1_0 (ix2 b v) = X (ix2 v b) := by
    show X _ = X _
    exact congrArg X (funext fun a => by
      match a with
      | ⟨0, _⟩ => rfl
      | ⟨1, _⟩ => rfl)
  unfold pairs sideBySide
  rw [concatenate_pair_apply_right (t := S1048576x64x2) (s₁ := S1048576x64x1) (s₂ := S1048576x64x1) 2 _ _ _ (at3 b v 1) rfl rfl (at31 b v) (fun a ha => by
    match a, ha with
    | ⟨0, _⟩, _ => rfl
    | ⟨1, _⟩, _ => rfl
    | ⟨2, _⟩, ha => exact absurd rfl ha) rfl]
  rw [one_more, wrapped_id, e]
  rw [e]
  rcases h with h | h <;> rw [h] <;> decide

/-- A vote's weight lands at its row and its class, and nowhere else. -/
theorem lands (X : IVec S64x1048576 32) (b b' : Fin 1048576) (v : Fin 64) (c : Fin 2)
    (h : X (ix2 v b') = 0#32 ∨ X (ix2 v b') = 1#32) :
    scatter_S1048576x2_S1048576x64x2_S1048576x64_n_01_01_2.resultIdx? (ix2 b' v) (pairs X) = some (ix2 b c)
      ↔ b' = b ∧ X (ix2 v b') = BitVec.ofNat 32 c.val := by
  have s0 : scatter_S1048576x2_S1048576x64x2_S1048576x64_n_01_01_2.start (ix2 b' v) (pairs X) 0 = (b'.val : ℤ) := by
    have e : scatter_S1048576x2_S1048576x64x2_S1048576x64_n_01_01_2.start (ix2 b' v) (pairs X) 0 = (pairs X (at3 b' v 0)).toInt := by
      unfold ScatterDims.start
      rw [dif_pos (by decide)]
      exact congrArg (fun i => (pairs X i).toInt) (funext fun a => by
        match a with
        | ⟨0, _⟩ => rfl
        | ⟨1, _⟩ => rfl
        | ⟨2, _⟩ => rfl)
    rw [e, pairs_row, row_small]
  have s1 : scatter_S1048576x2_S1048576x64x2_S1048576x64_n_01_01_2.start (ix2 b' v) (pairs X) 1 = (X (ix2 v b')).toInt := by
    have e : scatter_S1048576x2_S1048576x64x2_S1048576x64_n_01_01_2.start (ix2 b' v) (pairs X) 1 = (pairs X (at3 b' v 1)).toInt := by
      unfold ScatterDims.start
      rw [dif_pos (by decide)]
      exact congrArg (fun i => (pairs X i).toInt) (funext fun a => by
        match a with
        | ⟨0, _⟩ => rfl
        | ⟨1, _⟩ => rfl
        | ⟨2, _⟩ => rfl)
    rw [e, pairs_vote X b' v h]
  have w : ∀ a, scatter_S1048576x2_S1048576x64x2_S1048576x64_n_01_01_2.window (ix2 b' v) a = 0 := fun a => by
    unfold ScatterDims.window
    rw [dif_neg (by revert a; decide)]
  rw [Routing.resultIdx?_eq_some]
  constructor
  · intro k
    have k0 := k 0
    have k1 := k 1
    rw [s0, w] at k0
    rw [s1, w] at k1
    change (b'.val : ℤ) + ((0 : ℕ) : ℤ) = (b.val : ℤ) at k0
    change (X (ix2 v b')).toInt + ((0 : ℕ) : ℤ) = (c.val : ℤ) at k1
    refine ⟨Fin.ext (by omega), BitVec.eq_of_toInt_eq ?_⟩
    match c with
    | ⟨0, _⟩ => simpa using k1
    | ⟨1, _⟩ => simpa using k1
  · rintro ⟨rfl, e⟩ a
    rw [w a]
    match a with
    | ⟨0, _⟩ => exact (add_zero _).trans s0
    | ⟨1, _⟩ =>
      refine (add_zero _).trans (s1.trans ?_)
      rw [e]
      match c with
      | ⟨0, _⟩ => rfl
      | ⟨1, _⟩ => rfl

/-- A sum over the votes as a sum by rows. -/
theorem sum_rows (f : S1048576x64.Idx → EReal) : ∑ i, f i = ∑ b : Fin 1048576, ∑ v : Fin 64, f (ix2 b v) := by
  exact sum_idx2 f

/-- A scattered sum read at an index. -/
theorem scatter_sum {s si u : Shape} (d : ScatterDims s si u) (x : FVec Ideal s .f32) (idx : IVec si 32) (upd : FVec Ideal u .f32) (i : s.Idx) :
    Host.scatterAdd d x idx upd i = x i + ∑ j, if d.resultIdx? j idx = some i then upd j else 0 := by
  show Ideal.hostScatterAdd d x idx upd i = _
  unfold Ideal.hostScatterAdd
  rw [Finset.sum_filter]

/-- The count of a class in a row is the weight of the column's votes for it. -/
theorem counts_eq (X : IVec S64x1048576 32) (W : FVec Ideal S64 .f32) (w : Fin 64 → ℝ) (hW : ∀ r, W (ix1 r) = ((w r : ℝ) : EReal))
    (hg : ∀ b : Fin 1048576, Good w (fun r => X (ix2 r b))) (b : Fin 1048576) (c : Fin 2) :
    counts (F := Ideal) X W (ix2 b c) = ((mass w (fun r => X (ix2 r b)) (BitVec.ofNat 32 c.val) : ℝ) : EReal) := by
  unfold counts
  rw [scatter_sum]
  have z : (broadcastInDim S1048576x2 ![] bcast_S_S1048576x2 (constant (F := Ideal) S_ .f32 0x00000000#32)) (ix2 b c) = (0 : EReal) :=
    Ideal.ofBits_zero_f32
  rw [z, zero_add]
  unfold mass
  rw [coe_total, sum_rows, Finset.sum_eq_single b]
  · refine Finset.sum_congr rfl fun v _ => ?_
    have hs : spread (F := Ideal) W (ix2 b v) = ((w v : ℝ) : EReal) := (spread_at (F := Ideal) W b v).trans (hW v)
    rw [hs]
    by_cases e : X (ix2 v b) = BitVec.ofNat 32 c.val
    · rw [if_pos ((lands X b b v c ((hg b).votes v)).2 ⟨rfl, e⟩), if_pos e]
    · rw [if_neg fun k => e ((lands X b b v c ((hg b).votes v)).1 k).2, if_neg e]; rfl
  · intro b' _ hb
    exact Finset.sum_eq_zero fun v _ => if_neg fun k => hb ((lands X b b' v c ((hg b').votes v)).1 k).1
  · intro hb; exact absurd (Finset.mem_univ _) hb

end Cert.Proof.Vote.Ref

end
-- ==== Proof.RefBest.lean ====
/-
  The reference's last steps: the counts as whole numbers, and the class of the larger one, which is the column's winner.
-/
module

public import proofs.«01_k».proof.Proof.RefValue

@[expose] public section

noncomputable section

namespace Cert.Proof.Vote.Ref

open Cert.ReferenceIdeal Cert.ReferenceIdeal.Gen
open Idealize.ShloMosaic

/-- A list without repetitions whose members are two things is those two, in one order or the other. -/
theorem pair_list {α : Type} {l : List α} (hn : l.Nodup) {a b : α} (hab : a ≠ b) (hm : ∀ x, x ∈ l ↔ x = a ∨ x = b) :
    l = [a, b] ∨ l = [b, a] := by
  have p : l.Perm [a, b] := (List.perm_ext_iff_of_nodup hn (by simp [hab])).2 fun x => by simp [hm]
  obtain ⟨x, y, rfl⟩ := List.length_eq_two.1 p.length_eq
  have hxy : x ≠ y := by simpa using hn
  rcases (hm x).1 (by simp) with rfl | rfl <;> rcases (hm y).1 (by simp) with rfl | rfl
  · exact absurd rfl hxy
  · exact .inl rfl
  · exact .inr rfl
  · exact absurd rfl hxy

/-- The smallest word is below every small number's. -/
theorem least_slt {a : ℕ} (ha : a < 256) : (2147483648#32).slt (BitVec.ofNat 32 a) = true ∧ (BitVec.ofNat 32 a).slt 2147483648#32 = false
    ∧ (2147483648#32 == BitVec.ofNat 32 a) = false := by
  have e : (BitVec.ofNat 32 a).toInt = (a : ℤ) := by
    rw [BitVec.toInt_eq_toNat_of_lt (by rw [BitVec.toNat_ofNat]; omega), BitVec.toNat_ofNat]; omega
  have m : (2147483648#32).toInt = -2147483648 := by decide
  refine ⟨?_, ?_, ?_⟩
  · rw [BitVec.slt_eq_decide, e, m]; simp; omega
  · rw [BitVec.slt_eq_decide, e, m]; simp
  · rw [beq_eq_false_iff_ne]; intro k; rw [← k, m] at e; omega

/-- A first step from the initial pair takes the entry it meets. -/
theorem first_step {a : ℕ} (ha : a < 256) (i : BitVec 32) :
    reducer_argmax_i32_i32 (2147483648#32, 0#32) (BitVec.ofNat 32 a, i) = (BitVec.ofNat 32 a, i) := by
  obtain ⟨-, h2, h3⟩ := least_slt ha
  simp only [reducer_argmax_i32_i32, IntOp.cmpi, h2, h3, bne_self_eq_false]
  rw [show IntOp.ori (BitVec.ofBool false) (BitVec.ofBool false) = 0#1 by decide]
  unfold IntOp.andi IntOp.ori Scalar.select
  simp

/-- The second step keeps the larger entry. -/
theorem second_step {a b : ℕ} (ha : a < 256) (hb : b < 256) (i k : BitVec 32) :
    (reducer_argmax_i32_i32 (BitVec.ofNat 32 a, i) (BitVec.ofNat 32 b, k)).2
      = if b < a ∨ (a = b ∧ i.slt k = true) then i else k := by
  have he : (BitVec.ofNat 32 a == BitVec.ofNat 32 b) = decide (a = b) := by
    rw [Bool.eq_iff_iff, beq_iff_eq, decide_eq_true_eq]
    constructor
    · intro h
      have := congrArg BitVec.toNat h
      rw [BitVec.toNat_ofNat, BitVec.toNat_ofNat] at this
      omega
    · rintro rfl; rfl
  simp only [reducer_argmax_i32_i32, IntOp.cmpi, small_slt hb ha, he, bne_self_eq_false]
  by_cases h1 : b < a <;> by_cases h2 : a = b <;> cases h3 : i.slt k <;>
    simp [h1, h2, IntOp.andi, IntOp.ori, Scalar.select] <;> omega

/-- A reduction whose entries at an index are two: it takes them one after the other, in one order or the other. -/
theorem two_entries {α β : Type} {s t u : Shape} {axes : List (Fin s.rank)} (f : α × β → α × β → α × β) (x : s.Idx → α) (y : s.Idx → β)
    (ix : u.Idx → α) (iy : u.Idx → β) (h : s.ReducesTo axes t) (hu : 0 < u.numel) (j : t.Idx) {a b : s.Idx} (hab : a ≠ b)
    (hm : ∀ i, h.drop i = j ↔ i = a ∨ i = b) :
    seconds f x y ix iy h hu j = (f (f (ix (Shape.Idx.first hu), iy (Shape.Idx.first hu)) (x a, y a)) (x b, y b)).2
      ∨ seconds f x y ix iy h hu j = (f (f (ix (Shape.Idx.first hu), iy (Shape.Idx.first hu)) (x b, y b)) (x a, y a)).2 := by
  have hf : ∀ n, n ∈ (List.finRange s.numel).filter (fun n => decide (h.drop (s.rowMajor.symm n) = j))
      ↔ n = s.rowMajor a ∨ n = s.rowMajor b := fun n => by
    obtain ⟨i, rfl⟩ := s.rowMajor.surjective n
    rw [List.mem_filter, Equiv.symm_apply_apply, decide_eq_true_eq, hm i, s.rowMajor.apply_eq_iff_eq, s.rowMajor.apply_eq_iff_eq]
    exact and_iff_right (List.mem_finRange _)
  unfold seconds
  rw [Host.reduce2_eq_foldl_fiber]
  unfold Host.argReduceFiber
  rcases pair_list ((List.nodup_finRange _).filter _) (fun k => hab (s.rowMajor.injective k)) hf with e | e <;> rw [e] <;> simp

/-- The entries of a row are its two classes'. -/
theorem row_entries (b : Fin 1048576) (i : S1048576x2.Idx) :
    reducesTo_S1048576x2_S1048576_d1.drop i = ix1 b ↔ i = ix2 b (0 : Fin 2) ∨ i = ix2 b (1 : Fin 2) := by
  constructor
  · intro h
    have hb : i 0 = b := Fin.ext (congrArg Fin.val (congrFun h 0))
    rcases (show i 1 = (0 : Fin 2) ∨ i 1 = (1 : Fin 2) from by
      have : (i 1).val < 2 := (i 1).isLt
      rcases Nat.lt_or_ge (i 1).val 1 with k | k
      · exact .inl (Fin.ext (by show (i 1).val = 0; omega))
      · exact .inr (Fin.ext (by show (i 1).val = 1; omega))) with h | h
    · exact .inl (funext fun a => by
        match a with
        | ⟨0, _⟩ => exact hb
        | ⟨1, _⟩ => exact h)
    · exact .inr (funext fun a => by
        match a with
        | ⟨0, _⟩ => exact hb
        | ⟨1, _⟩ => exact h)
  · rintro (rfl | rfl)
    · exact funext fun a => by match a with | ⟨0, _⟩ => rfl
    · exact funext fun a => by match a with | ⟨0, _⟩ => rfl

/-- The two classes of a row are two entries. -/
theorem row_ne (b : Fin 1048576) : (ix2 b (0 : Fin 2) : S1048576x2.Idx) ≠ ix2 b (1 : Fin 2) := fun h =>
  absurd (congrFun h 1) (show ¬ (0 : Fin 2) = 1 by decide)

/-- The class of the larger of two small counts, the first where they are equal. -/
theorem best_eq (N : IVec S1048576x2 32) (b : Fin 1048576) {n0 n1 : ℕ} (h0 : n0 < 256) (h1 : n1 < 256)
    (e0 : N (ix2 b (0 : Fin 2)) = BitVec.ofNat 32 n0) (e1 : N (ix2 b (1 : Fin 2)) = BitVec.ofNat 32 n1) :
    best N (ix1 b) = if n0 < n1 then 1#32 else 0#32 := by
  have k0 : iotaInDim S1048576x2 32 1 (ix2 b (0 : Fin 2)) = 0#32 := rfl
  have k1 : iotaInDim S1048576x2 32 1 (ix2 b (1 : Fin 2)) = 1#32 := rfl
  have init : ((constantI S_ 32 2147483648#32) (Shape.Idx.first h_S_), (constantI S_ 32 0#32) (Shape.Idx.first h_S_))
      = ((2147483648#32, 0#32) : BitVec 32 × BitVec 32) := rfl
  unfold best
  rcases two_entries reducer_argmax_i32_i32 N (iotaInDim S1048576x2 32 1) (constantI S_ 32 2147483648#32) (constantI S_ 32 0#32)
    reducesTo_S1048576x2_S1048576_d1 h_S_ (ix1 b) (row_ne b) (row_entries b) with e | e
  · rw [e, init, e0, e1, k0, k1, first_step h0, second_step h0 h1]
    have : (0#32).slt 1#32 = true := by decide
    by_cases hl : n0 < n1
    · rw [if_neg (by omega), if_pos hl]
    · rw [if_pos (by
        rcases Nat.lt_or_eq_of_le (Nat.le_of_not_lt hl) with k | k
        exacts [.inl k, .inr ⟨k.symm, this⟩]), if_neg hl]
  · rw [e, init, e0, e1, k0, k1, first_step h1, second_step h1 h0]
    have : (1#32).slt 0#32 = false := by decide
    by_cases hl : n0 < n1
    · rw [if_pos (by omega), if_pos hl]
    · rw [if_neg (by simp [this]; omega), if_neg hl]

/-- A small count stays as it is when clipped. -/
theorem clipped_eq (C : Vec Ideal S1048576x2 .f32) (i : S1048576x2.Idx) {r : ℝ} (h0 : 0 ≤ r) (h1 : r < 256)
    (e : C i = ((r : ℝ) : EReal)) : clipped (F := Ideal) C i = BitVec.ofNat 32 ⌊r⌋₊ := by
  show IntOp.minsi 255#32 (IntOp.maxsi 0#32 (Ideal.fptosi 32 (C i))) = _
  have hl := floor_small h0 h1
  rw [e, fptosi_small h0 h1]
  have m : IntOp.maxsi 0#32 (BitVec.ofNat 32 ⌊r⌋₊) = BitVec.ofNat 32 ⌊r⌋₊ := by
    unfold IntOp.maxsi
    rw [if_neg]
    rw [show (0#32) = BitVec.ofNat 32 0 from rfl, small_slt hl (by omega)]
    simp
  rw [m]
  unfold IntOp.minsi
  rw [if_neg]
  rw [show (255#32) = BitVec.ofNat 32 255 from rfl, small_slt (by omega) hl]
  simp; omega

/-- The reference returns each column's winner. -/
theorem out_good (X : IVec S64x1048576 32) (W : FVec Ideal S64 .f32) (w : Fin 64 → ℝ) (hW : ∀ r, W (ix1 r) = ((w r : ℝ) : EReal))
    (hg : ∀ b : Fin 1048576, Good w (fun r => X (ix2 r b))) (b : Fin 1048576) :
    out (F := Ideal) X W (ix1 b) = winner w (fun r => X (ix2 r b)) :=
  best_eq _ b (floor_small (mass_nonneg (hg b) _) (mass_zero_lt (hg b))) (floor_small (mass_nonneg (hg b) _) (mass_one_lt (hg b)))
    (clipped_eq _ _ (mass_nonneg (hg b) _) (mass_zero_lt (hg b)) (counts_eq X W w hW hg b 0))
    (clipped_eq _ _ (mass_nonneg (hg b) _) (mass_one_lt (hg b)) (counts_eq X W w hW hg b 1))

end Cert.Proof.Vote.Ref

end
-- ==== Proof.Value.lean ====
/-
  The value: under the precondition both halves of the program's result, put end to end, are the reference's result.
-/
module

public import proofs.«01_k».proof.Proof.TcValue
public import proofs.«01_k».proof.Proof.RefBest
public import proofs.«01_k».proof.Proof.Main

@[expose] public section

noncomputable section

namespace Cert.Proof.Vote

open Cert.KernelIdeal Cert.KernelIdeal.Gen
open Idealize.ShloMosaic Idealize.ShloMosaic.TcCoe

variable {w : Fin 64 → ℝ}

/-- A column of the SparseCore half among all of them. -/
def scCol (y : S622592.Idx) : Fin 1048576 := ⟨(y 0).val, Nat.lt_trans (y 0).isLt (by decide)⟩

/-- The SparseCore half's result is each column's winner. -/
theorem sc_value (W : Vec Ideal S64x16 .f32) (X : Vec Ideal S64x1048576 .i32)
    (hW : ∀ (r : Fin 64) (k : Fin 16), W (ix2 r k) = ((w r : ℝ) : EReal))
    (hg : ∀ b : Fin 1048576, Good w (fun r => X (ix2 r b))) :
    res (F := Ideal) W X = fun y => winner w (fun r => X (ix2 r (scCol y))) := by
  funext y
  unfold res
  rw [show (fun r => W (ix2 r (⟨(y 0).val % 16, Nat.mod_lt _ (by decide)⟩ : Fin 16))) = fun r => ((w r : ℝ) : EReal) from
    funext fun r => hW r _]
  show word _ (cnt _ (fun r => X (ix2 r (scCol y))) 64) = _
  rw [cnt_eq (hg _), tot_eq, word_eq (hg _)]

/-- The weights as a column. -/
theorem col_at (g : Vec Ideal S64 .f32) (r : Fin 64) :
    broadcastInDim S64x1 ![0] bcast_S64_S64x1_0 g (ix2 r (0 : Fin 1)) = g (ix1 r) := by
  unfold broadcastInDim
  exact congrArg g (funext fun a => by match a with | ⟨0, _⟩ => rfl)

/-- The weights' column as sixteen equal ones. -/
theorem rows_at (c : Vec Ideal S64x1 .f32) (r : Fin 64) (k : Fin 16) :
    broadcastInDim S64x16 ![0, 1] bcast_S64x1_S64x16_0_1 c (ix2 r k) = c (ix2 r (0 : Fin 1)) := by
  unfold broadcastInDim
  exact congrArg c (funext fun a => by
    match a with
    | ⟨0, _⟩ => rfl
    | ⟨1, _⟩ => rfl)

/-- The two halves put end to end, column by column. -/
theorem halves (a : Vec Ideal S622592 .i32) (b : Vec Ideal S425984 .i32) (f : Fin 1048576 → BitVec 32)
    (ha : a = fun y => f (scCol y)) (hb : b = fun y => f (tcCol y)) (i : Fin 1048576) :
    concatenate S1048576 0 [⟨S622592, a⟩, ⟨S425984, b⟩] concatenates_S622592_S425984_S1048576_d0 (ix1 i) = f i := by
  by_cases hi : i.val < 622592
  · rw [concatenate_pair_apply_left (t := S1048576) (s₁ := S622592) (s₂ := S425984) 0 _ _ _ (ix1 i) rfl (ix1 ⟨i.val, hi⟩) (fun c => by
      match c with
      | ⟨0, _⟩ => rfl), ha]
    rfl
  · have := i.isLt
    rw [concatenate_pair_apply_right (t := S1048576) (s₁ := S622592) (s₂ := S425984) 0 _ _ _ (ix1 i) rfl rfl
      (ix1 ⟨i.val - 622592, by omega⟩) (fun c hc => by
      match c, hc with
      | ⟨0, _⟩, hc => exact absurd rfl hc) (by show i.val - 622592 + 622592 = i.val; omega), hb]
    exact congrArg f (Fin.ext (by show 622592 + (i.val - 622592) = i.val; omega))

/-- Under the precondition the program's result is the reference's. -/
theorem result_eq (m : (ℓ : Loc nD τ sig) → Buf (Elt Ideal) ℓ) (d : Dev nD)
    (hp : Cert.Pre_votes_and_weights.fn (F := Ideal) (m (aLoc d)) (m (gLoc d)) = fun _ => 1#1) :
    (result (F := Ideal) m d : Vec Ideal S1048576 .i32) = Ref.out (F := Ideal) (m (aLoc d)) (m (gLoc d)) := by
  obtain ⟨w, hW, hg⟩ := pre_good (m (aLoc d)) (m (gLoc d)) hp
  have hc : ∀ r : Fin 64, wCol m d (ix2 r (0 : Fin 1)) = ((w r : ℝ) : EReal) := fun r => (col_at _ r).trans (hW r)
  funext y
  obtain ⟨i, rfl⟩ : ∃ i : Fin 1048576, y = ix1 i := ⟨y 0, by funext a; match a with | ⟨0, _⟩ => rfl⟩
  rw [Ref.out_good (m (aLoc d)) (m (gLoc d)) w hW hg i]
  exact halves _ _ (fun b => winner w (fun r => (m (aLoc d) : Vec Ideal S64x1048576 .i32) (ix2 r b)))
    (sc_value _ _ (fun r k => (rows_at _ r k).trans (hc r)) hg)
    (tc_value (fun c => wCol m c) (fun c => m (aLoc c)) (fun c => m (tLoc c)) d hc hg) i

end Cert.Proof.Vote

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Main
public import proofs.«01_k».proof.Proof.Ref
public import proofs.«01_k».proof.Proof.Same
public import proofs.«01_k».proof.Proof.Value

@[expose] public section

noncomputable section

namespace Cert.Proof

open Idealize.ShloMosaic Idealize.SL.Sem

/-- The program runs to its end over bit patterns, its arguments kept and every counter at zero. -/
theorem frame_kernel : Cert.quiescent_Kernel := fun m ρ _ => by
  rw [Vote.defs_same, Vote.threads_same]
  exact (θ_run (Cert.KernelIdeal.defs (F := Bits)) (Cert.KernelIdeal.threads (F := Bits)) ⟨m, fun _ => 0, ρ⟩).mono
    (fun r (h : Vote.QC m r) => And.intro (fun c => And.intro (h.1 c).1 (h.1 c).2.1) h.2) (Vote.run_main (F := Bits) m ρ)

/-- The same over extended reals. -/
theorem frame_ideal : Cert.quiescent_KernelIdeal := fun m ρ _ =>
  (θ_run Cert.KernelIdeal.defs _ _).mono (fun _ h => ⟨fun c => ⟨(h.1 c).1, (h.1 c).2.1⟩, h.2⟩)
    (Vote.run_main (F := Ideal) m ρ)

/-- The reference runs to its end over extended reals, its arguments kept and every counter at zero. -/
theorem frame_reference : Cert.quiescent_ReferenceIdeal := fun m ρ _ =>
  (θ_run Cert.ReferenceIdeal.defs _ _).mono (fun _ h => ⟨fun c => (h.1 c).2, h.2⟩)
    (Vote.Ref.run_out (F := Ideal) m ρ)

/-- The program over extended reals keeps its arguments and counters under the precondition too. -/
theorem frame_ideal_pre : Cert.quiescent_KernelIdeal_pre_votes_and_weights := fun m ρ _ => frame_ideal m ρ trivial

/-- And so does the reference. -/
theorem frame_reference_pre : Cert.quiescent_ReferenceIdeal_pre_votes_and_weights := fun m ρ _ => frame_reference m ρ trivial

/-- Over extended reals, under the precondition, the program and the reference return the same. -/
theorem algebraic : Cert.algebraic_KernelIdeal_ReferenceIdeal_pre_votes_and_weights := fun m ρ m' ρ' hp hm =>
  ⟨fun c => Vote.result (F := Ideal) m c,
    (θ_run Cert.KernelIdeal.defs _ _).mono (fun _ h c => ⟨(h.1 c).2.2, (h.1 c).1, (h.1 c).2.1⟩) (Vote.run_main (F := Ideal) m ρ),
    (θ_run Cert.ReferenceIdeal.defs _ _).mono (fun r h c => ⟨by
        have e := (h.1 c).1
        rw [(hm c).1, (hm c).2] at e
        exact e.trans (Vote.result_eq m c (hp c)).symm, (h.1 c).2⟩)
      (Vote.Ref.run_out (F := Ideal) m' ρ')⟩

/-- The claims of this certificate. -/
theorem claim : Cert.Claim := ⟨Cert.Kernel.Gen.facts, Cert.KernelIdeal.Gen.facts, Cert.ReferenceIdeal.Gen.facts, Vote.preFacts,
  frame_kernel, frame_ideal, frame_ideal_pre, frame_reference, frame_reference_pre, trivial, algebraic⟩

end Cert.Proof

end
